-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v327) = v0 c
          ∧ r.2.mem ((c.tc : Thread Cert.ReferenceIdeal.nD Cert.ReferenceIdeal.τ).loc Cert.ReferenceIdeal.main_v333) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x128 : Shape := ⟨2, ![4096, 128]⟩
abbrev S4096x4096 : Shape := ⟨2, ![4096, 4096]⟩
abbrev S128x1024 : Shape := ⟨2, ![128, 1024]⟩
abbrev S1024 : Shape := ⟨1, ![1024]⟩
abbrev S1024x512 : Shape := ⟨2, ![1024, 512]⟩
abbrev S512 : Shape := ⟨1, ![512]⟩
abbrev S512x50 : Shape := ⟨2, ![512, 50]⟩
abbrev S50 : Shape := ⟨1, ![50]⟩
abbrev S50x10 : Shape := ⟨2, ![50, 10]⟩
abbrev S10 : Shape := ⟨1, ![10]⟩
abbrev S128x64 : Shape := ⟨2, ![128, 64]⟩
abbrev S64x10 : Shape := ⟨2, ![64, 10]⟩
abbrev S_ : Shape := ⟨0, ![]⟩
abbrev S512x64 : Shape := ⟨2, ![512, 64]⟩
abbrev S64 : Shape := ⟨1, ![64]⟩
abbrev S1x64 : Shape := ⟨2, ![1, 64]⟩
abbrev S1x1024 : Shape := ⟨2, ![1, 1024]⟩
abbrev S1x512 : Shape := ⟨2, ![1, 512]⟩
abbrev S1x10 : Shape := ⟨2, ![1, 10]⟩
abbrev S4096x10 : Shape := ⟨2, ![4096, 10]⟩
abbrev S512x4096 : Shape := ⟨2, ![512, 4096]⟩
abbrev S1024x10 : Shape := ⟨2, ![1024, 10]⟩
abbrev S4096x64 : Shape := ⟨2, ![4096, 64]⟩
abbrev S10x10 : Shape := ⟨2, ![10, 10]⟩
abbrev S2048x128 : Shape := ⟨2, ![2048, 128]⟩
abbrev S2048x1024 : Shape := ⟨2, ![2048, 1024]⟩
abbrev S2048x512 : Shape := ⟨2, ![2048, 512]⟩
abbrev S2048x64 : Shape := ⟨2, ![2048, 64]⟩
abbrev S2048x10 : Shape := ⟨2, ![2048, 10]⟩
abbrev S512x10 : Shape := ⟨2, ![512, 10]⟩
abbrev S1x1 : Shape := ⟨2, ![1, 1]⟩
abbrev S10x1 : Shape := ⟨2, ![10, 1]⟩
abbrev S1024x4096 : Shape := ⟨2, ![1024, 4096]⟩

abbrev nBuf : Space → Nat
  | .hbm => 27
  | .vmem => 23
  | .smem => 0
  | _ => 0

abbrev bufTy : (tb : Table) → Fin (tcTables nBuf tb) → BufTy
  | .hbm, ⟨0, _⟩ => ⟨S4096x128, .f32⟩
  | .hbm, ⟨1, _⟩ => ⟨S4096x4096, .f32⟩
  | .hbm, ⟨2, _⟩ => ⟨S128x1024, .f32⟩
  | .hbm, ⟨3, _⟩ => ⟨S1024, .f32⟩
  | .hbm, ⟨4, _⟩ => ⟨S1024x512, .f32⟩
  | .hbm, ⟨5, _⟩ => ⟨S512, .f32⟩
  | .hbm, ⟨6, _⟩ => ⟨S512x50, .f32⟩
  | .hbm, ⟨7, _⟩ => ⟨S50, .f32⟩
  | .hbm, ⟨8, _⟩ => ⟨S50x10, .f32⟩
  | .hbm, ⟨9, _⟩ => ⟨S10, .f32⟩
  | .hbm, ⟨10, _⟩ => ⟨S128x64, .f32⟩
  | .hbm, ⟨11, _⟩ => ⟨S64x10, .f32⟩
  | .hbm, ⟨12, _⟩ => ⟨S_, .i32⟩
  | .hbm, ⟨13, _⟩ => ⟨S_, .f32⟩
  | .hbm, ⟨14, _⟩ => ⟨S512x64, .f32⟩
  | .hbm, ⟨15, _⟩ => ⟨S_, .i32⟩
  | .hbm, ⟨16, _⟩ => ⟨S_, .f32⟩
  | .hbm, ⟨17, _⟩ => ⟨S64, .f32⟩
  | .hbm, ⟨18, _⟩ => ⟨S1x64, .f32⟩
  | .hbm, ⟨19, _⟩ => ⟨S_, .i32⟩
  | .hbm, ⟨20, _⟩ => ⟨S_, .f32⟩
  | .hbm, ⟨21, _⟩ => ⟨S64x10, .f32⟩
  | .hbm, ⟨22, _⟩ => ⟨S1x1024, .f32⟩
  | .hbm, ⟨23, _⟩ => ⟨S1x512, .f32⟩
  | .hbm, ⟨24, _⟩ => ⟨S1x10, .f32⟩
  | .hbm, ⟨25, _⟩ => ⟨S4096x10, .f32⟩
  | .hbm, ⟨26, _⟩ => ⟨S4096x10, .f32⟩
  | .local _ .vmem, ⟨0, _⟩ => ⟨S4096x128, .f32⟩
  | .local _ .vmem, ⟨1, _⟩ => ⟨S512x4096, .f32⟩
  | .local _ .vmem, ⟨2, _⟩ => ⟨S512x4096, .f32⟩
  | .local _ .vmem, ⟨3, _⟩ => ⟨S128x1024, .f32⟩
  | .local _ .vmem, ⟨4, _⟩ => ⟨S1x1024, .f32⟩
  | .local _ .vmem, ⟨5, _⟩ => ⟨S1024x512, .f32⟩
  | .local _ .vmem, ⟨6, _⟩ => ⟨S1x512, .f32⟩
  | .local _ .vmem, ⟨7, _⟩ => ⟨S512x64, .f32⟩
  | .local _ .vmem, ⟨8, _⟩ => ⟨S1x64, .f32⟩
  | .local _ .vmem, ⟨9, _⟩ => ⟨S64x10, .f32⟩
  | .local _ .vmem, ⟨10, _⟩ => ⟨S1x10, .f32⟩
  | .local _ .vmem, ⟨11, _⟩ => ⟨S128x64, .f32⟩
  | .local _ .vmem, ⟨12, _⟩ => ⟨S64x10, .f32⟩
  | .local _ .vmem, ⟨13, _⟩ => ⟨S1024x10, .f32⟩
  | .local _ .vmem, ⟨14, _⟩ => ⟨S1024x10, .f32⟩
  | .local _ .vmem, ⟨15, _⟩ => ⟨S1024x10, .f32⟩
  | .local _ .vmem, ⟨16, _⟩ => ⟨S1024x10, .f32⟩
  | .local _ .vmem, ⟨17, _⟩ => ⟨S4096x64, .bf16⟩
  | .local _ .vmem, ⟨18, _⟩ => ⟨S4096x4096, .bf16⟩
  | .local _ .vmem, ⟨19, _⟩ => ⟨S4096x10, .bf16⟩
  | .local _ .vmem, ⟨20, _⟩ => ⟨S4096x10, .bf16⟩
  | .local _ .vmem, ⟨21, _⟩ => ⟨S10x10, .f32⟩
  | .local _ .vmem, ⟨22, _⟩ => ⟨S10x10, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_call0_v0 : Ref sig .tc := ⟨.hbm, 13, rfl⟩
abbrev main_v0 : Ref sig .tc := ⟨.hbm, 14, rfl⟩
abbrev main_c_0 : Ref sig .tc := ⟨.hbm, 15, rfl⟩
abbrev main_call1_v0 : Ref sig .tc := ⟨.hbm, 16, rfl⟩
abbrev main_v1 : Ref sig .tc := ⟨.hbm, 17, rfl⟩
abbrev main_v2 : Ref sig .tc := ⟨.hbm, 18, rfl⟩
abbrev main_c_1 : Ref sig .tc := ⟨.hbm, 19, rfl⟩
abbrev main_call2_v0 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7_0 : Ref sig .tc := ⟨.hbm, 25, rfl⟩
abbrev main_v7_1 : Ref sig .tc := ⟨.hbm, 26, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg12_1 : Ref sig .tc := ⟨.vmem, 14, rfl⟩
abbrev cc0_stg13_0 : Ref sig .tc := ⟨.vmem, 15, rfl⟩
abbrev cc0_stg13_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_scratch4 : Ref sig .tc := ⟨.vmem, 21, rfl⟩
abbrev cc0_scratch5 : Ref sig .tc := ⟨.vmem, 22, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem12_1 : DmaSem sig := 14
abbrev cc0_sem13_0 : DmaSem sig := 15
abbrev cc0_sem13_1 : DmaSem sig := 16

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg0 : BitVec 32 := BitVec.ofNat 32 (i 0).val
  let c0_i32_2 : BitVec 32 := 0#32
  let v5 : BitVec 1 := Scalar.cmpi .eq arg0 c0_i32_2
  let arg1 : BitVec 32 := BitVec.ofNat 32 (i 1).val
  let c4_i32 : BitVec 32 := 4#32
  let c0_i32_3 : BitVec 32 := 0#32
  let v6 : BitVec 1 := Scalar.cmpi .eq c4_i32 c0_i32_3
  let c1_i32 : BitVec 32 := 1#32
  let v7 : BitVec 32 := Scalar.select v6 c1_i32 c4_i32
  let v8 : BitVec 32 := Scalar.remsi arg1 v7
  let c0_i32_5 : BitVec 32 := 0#32
  let v10 : BitVec 1 := Scalar.cmpi .slt v8 c0_i32_5
  let c0_i32_6 : BitVec 32 := 0#32
  let v11 : BitVec 1 := Scalar.cmpi .slt v7 c0_i32_6
  let v12 : BitVec 1 := Scalar.xori v10 v11
  let c0_i32_4 : BitVec 32 := 0#32
  let v9 : BitVec 1 := Scalar.cmpi .ne v8 c0_i32_4
  let v13 : BitVec 1 := Scalar.andi v12 v9
  let v14 : BitVec 32 := Scalar.addi v8 v7
  let v15 : BitVec 32 := Scalar.select v13 v14 v8
  let c0_i32_7 : BitVec 32 := 0#32
  let v16 : BitVec 1 := Scalar.cmpi .eq v15 c0_i32_7
  let v17 : BitVec 1 := Scalar.andi v5 v16
  let v18 : BitVec 32 := Scalar.extui v17
  let c0_i32_8 : BitVec 32 := 0#32
  let v19 : BitVec 1 := Scalar.cmpi .ne v18 c0_i32_8
  v19

def k0_off1 (i : grid0.Coords) : Fin 2 → Nat :=
  let arg1 : BitVec 32 := BitVec.ofNat 32 (i 1).val
  let c512_i32 : BitVec 32 := 512#32
  let v33 : BitVec 32 := Scalar.muli arg1 c512_i32
  let v34 : Index := Scalar.indexCast v33
  let c0 : Index := 0#32
  ![v34.toNat, 0]
def k0_off2 (i : grid0.Coords) : Fin 2 → Nat :=
  let arg1 : BitVec 32 := BitVec.ofNat 32 (i 1).val
  let c512_i32_39 : BitVec 32 := 512#32
  let v78 : BitVec 32 := Scalar.muli arg1 c512_i32_39
  let v79 : Index := Scalar.indexCast v78
  let c0_40 : Index := 0#32
  ![v79.toNat, 0]
def k0_cond5 (i : grid0.Coords) : BitVec 1 :=
  let arg0 : BitVec 32 := BitVec.ofNat 32 (i 0).val
  let c0_i32_9 : BitVec 32 := 0#32
  let v20 : BitVec 1 := Scalar.cmpi .eq arg0 c0_i32_9
  let v21 : BitVec 32 := Scalar.extui v20
  let c0_i32_10 : BitVec 32 := 0#32
  let v22 : BitVec 1 := Scalar.cmpi .ne v21 c0_i32_10
  v22

def k0_off3 (i : grid0.Coords) : Fin 2 → Nat :=
  let arg1 : BitVec 32 := BitVec.ofNat 32 (i 1).val
  let c512_i32 : BitVec 32 := 512#32
  let v35 : BitVec 32 := Scalar.muli arg1 c512_i32
  let v36 : Index := Scalar.indexCast v35
  let c0_18 : Index := 0#32
  ![v36.toNat, 0]
def k0_off4 (i : grid0.Coords) : Fin 2 → Nat :=
  let arg1 : BitVec 32 := BitVec.ofNat 32 (i 1).val
  let c512_i32_25 : BitVec 32 := 512#32
  let v49 : BitVec 32 := Scalar.muli arg1 c512_i32_25
  let v50 : Index := Scalar.indexCast v49
  let c0_26 : Index := 0#32
  ![v50.toNat, 0]
def k0_cond7 (i : grid0.Coords) : BitVec 1 :=
  let arg0 : BitVec 32 := BitVec.ofNat 32 (i 0).val
  let c1_i32_14 : BitVec 32 := 1#32
  let v28 : BitVec 1 := Scalar.cmpi .eq arg0 c1_i32_14
  let arg1 : BitVec 32 := BitVec.ofNat 32 (i 1).val
  let c4_i32_15 : BitVec 32 := 4#32
  let v29 : BitVec 1 := Scalar.cmpi .slt arg1 c4_i32_15
  let v30 : BitVec 1 := Scalar.andi v28 v29
  let v31 : BitVec 32 := Scalar.extui v30
  let c0_i32_16 : BitVec 32 := 0#32
  let v32 : BitVec 1 := Scalar.cmpi .ne v31 c0_i32_16
  v32

def k0_off5 (i : grid0.Coords) : Fin 2 → Nat :=
  let arg1 : BitVec 32 := BitVec.ofNat 32 (i 1).val
  let c2_i32 : BitVec 32 := 2#32
  let v33 : BitVec 32 := Scalar.muli arg1 c2_i32
  let c512_i32 : BitVec 32 := 512#32
  let v34 : BitVec 32 := Scalar.muli v33 c512_i32
  let v35 : Index := Scalar.indexCast v34
  let c0 : Index := 0#32
  ![v35.toNat, 0]
def k0_off6 (i : grid0.Coords) : Fin 2 → Nat :=
  let arg1 : BitVec 32 := BitVec.ofNat 32 (i 1).val
  let c2_i32_22 : BitVec 32 := 2#32
  let v42 : BitVec 32 := Scalar.muli arg1 c2_i32_22
  let c512_i32_23 : BitVec 32 := 512#32
  let v43 : BitVec 32 := Scalar.muli v42 c512_i32_23
  let v44 : Index := Scalar.indexCast v43
  let c0_24 : Index := 0#32
  ![v44.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c7_i32 : BitVec 32 := 7#32
  let v1 : BitVec 32 := Scalar.select v0 arg1 c7_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c3_i32 : BitVec 32 := 3#32
  let v1 : BitVec 32 := Scalar.minsi arg1 c3_i32
  let c0_i32_0 : BitVec 32 := 0#32
  let v2 : BitVec 32 := Scalar.select v0 c0_i32_0 v1
  let c0_i32_1 : BitVec 32 := 0#32
  let c0_i32_2 : BitVec 32 := 0#32
  ![v2.toNat, c0_i32_1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c3_i32 : BitVec 32 := 3#32
  let v1 : BitVec 32 := Scalar.minsi arg1 c3_i32
  let c0_i32_0 : BitVec 32 := 0#32
  let v2 : BitVec 32 := Scalar.select v0 c0_i32_0 v1
  let c0_i32_1 : BitVec 32 := 0#32
  let c0_i32_2 : BitVec 32 := 0#32
  ![v2.toNat, c0_i32_1.toNat]

abbrev stage0_0 : Fin 1 → Memref sig .tc .vmem S4096x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S64x10 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x10 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S128x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S64x10 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1024x10 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1024x10 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== ReferenceIdeal.lean ====
abbrev S4096x128 : Shape := ⟨2, ![4096, 128]⟩
abbrev S4096x4096 : Shape := ⟨2, ![4096, 4096]⟩
abbrev S128x1024 : Shape := ⟨2, ![128, 1024]⟩
abbrev S1024 : Shape := ⟨1, ![1024]⟩
abbrev S1024x512 : Shape := ⟨2, ![1024, 512]⟩
abbrev S512 : Shape := ⟨1, ![512]⟩
abbrev S512x50 : Shape := ⟨2, ![512, 50]⟩
abbrev S50 : Shape := ⟨1, ![50]⟩
abbrev S50x10 : Shape := ⟨2, ![50, 10]⟩
abbrev S10 : Shape := ⟨1, ![10]⟩
abbrev S128x64 : Shape := ⟨2, ![128, 64]⟩
abbrev S64x10 : Shape := ⟨2, ![64, 10]⟩
abbrev S4096x1024 : Shape := ⟨2, ![4096, 1024]⟩
abbrev S1x1024 : Shape := ⟨2, ![1, 1024]⟩
abbrev S_ : Shape := ⟨0, ![]⟩
abbrev S4096x512 : Shape := ⟨2, ![4096, 512]⟩
abbrev S1x512 : Shape := ⟨2, ![1, 512]⟩
abbrev S4096x50 : Shape := ⟨2, ![4096, 50]⟩
abbrev S1x50 : Shape := ⟨2, ![1, 50]⟩
abbrev S4096x10 : Shape := ⟨2, ![4096, 10]⟩
abbrev S1x10 : Shape := ⟨2, ![1, 10]⟩
abbrev S10x4096 : Shape := ⟨2, ![10, 4096]⟩
abbrev S10x10 : Shape := ⟨2, ![10, 10]⟩
abbrev S10x1 : Shape := ⟨2, ![10, 1]⟩
abbrev S1 : Shape := ⟨1, ![1]⟩
abbrev S1x1 : Shape := ⟨2, ![1, 1]⟩
abbrev S4096x64 : Shape := ⟨2, ![4096, 64]⟩

abbrev nBuf : Space → Nat
  | .hbm => 416
  | .vmem => 0
  | .smem => 0
  | _ => 0

abbrev hbmTy0_0 (i : Nat) : BufTy := match i % 128 with
  | 0 => ⟨S4096x128, .f32⟩
  | 1 => ⟨S4096x4096, .f32⟩
  | 2 => ⟨S128x1024, .f32⟩
  | 3 => ⟨S1024, .f32⟩
  | 4 => ⟨S1024x512, .f32⟩
  | 5 => ⟨S512, .f32⟩
  | 6 => ⟨S512x50, .f32⟩
  | 7 => ⟨S50, .f32⟩
  | 8 => ⟨S50x10, .f32⟩
  | 9 => ⟨S10, .f32⟩
  | 10 => ⟨S128x64, .f32⟩
  | 11 => ⟨S64x10, .f32⟩
  | 12 => ⟨S4096x1024, .f32⟩
  | 13 => ⟨S1x1024, .f32⟩
  | 14 => ⟨S4096x1024, .f32⟩
  | 15 => ⟨S4096x1024, .f32⟩
  | 16 => ⟨S_, .f32⟩
  | 17 => ⟨S4096x1024, .f32⟩
  | 18 => ⟨S4096x1024, .f32⟩
  | 19 => ⟨S4096x512, .f32⟩
  | 20 => ⟨S1x512, .f32⟩
  | 21 => ⟨S4096x512, .f32⟩
  | 22 => ⟨S4096x512, .f32⟩
  | 23 => ⟨S_, .f32⟩
  | 24 => ⟨S4096x512, .f32⟩
  | 25 => ⟨S4096x512, .f32⟩
  | 26 => ⟨S4096x50, .f32⟩
  | 27 => ⟨S1x50, .f32⟩
  | 28 => ⟨S4096x50, .f32⟩
  | 29 => ⟨S4096x50, .f32⟩
  | 30 => ⟨S_, .f32⟩
  | 31 => ⟨S4096x50, .f32⟩
  | 32 => ⟨S4096x50, .f32⟩
  | 33 => ⟨S4096x10, .f32⟩
  | 34 => ⟨S1x10, .f32⟩
  | 35 => ⟨S4096x10, .f32⟩
  | 36 => ⟨S4096x10, .f32⟩
  | 37 => ⟨S4096x10, .f32⟩
  | 38 => ⟨S10x4096, .f32⟩
  | 39 => ⟨S10x10, .f32⟩
  | 40 => ⟨S10x10, .i32⟩
  | 41 => ⟨S10x10, .i32⟩
  | 42 => ⟨S_, .i32⟩
  | 43 => ⟨S10x10, .i32⟩
  | 44 => ⟨S10x10, .i32⟩
  | 45 => ⟨S10x10, .i1⟩
  | 46 => ⟨S10x10, .f32⟩
  | 47 => ⟨S_, .f32⟩
  | 48 => ⟨S10x10, .f32⟩
  | 49 => ⟨S10x10, .f32⟩
  | 50 => ⟨S10x10, .f32⟩
  | 51 => ⟨S10, .i32⟩
  | 52 => ⟨S_, .f32⟩
  | 53 => ⟨S10x10, .f32⟩
  | 54 => ⟨S10x1, .f32⟩
  | 55 => ⟨S10, .f32⟩
  | 56 => ⟨S1x10, .f32⟩
  | 57 => ⟨S10, .f32⟩
  | 58 => ⟨S10, .f32⟩
  | 59 => ⟨S10, .f32⟩
  | 60 => ⟨S_, .i32⟩
  | 61 => ⟨S10, .i32⟩
  | 62 => ⟨S10, .i1⟩
  | 63 => ⟨S1, .f32⟩
  | 64 => ⟨S_, .f32⟩
  | 65 => ⟨S_, .f32⟩
  | 66 => ⟨S10, .f32⟩
  | 67 => ⟨S10, .f32⟩
  | 68 => ⟨S_, .f32⟩
  | 69 => ⟨S_, .f32⟩
  | 70 => ⟨S10, .f32⟩
  | 71 => ⟨S10, .f32⟩
  | 72 => ⟨S_, .i32⟩
  | 73 => ⟨S1, .i32⟩
  | 74 => ⟨S10x10, .f32⟩
  | 75 => ⟨S10x1, .f32⟩
  | 76 => ⟨S10, .f32⟩
  | 77 => ⟨S1x10, .f32⟩
  | 78 => ⟨S10, .f32⟩
  | 79 => ⟨S10, .f32⟩
  | 80 => ⟨S10, .f32⟩
  | 81 => ⟨S_, .i32⟩
  | 82 => ⟨S10, .i32⟩
  | 83 => ⟨S10, .i1⟩
  | 84 => ⟨S1, .f32⟩
  | 85 => ⟨S_, .f32⟩
  | 86 => ⟨S_, .f32⟩
  | 87 => ⟨S10, .f32⟩
  | 88 => ⟨S10, .f32⟩
  | 89 => ⟨S_, .f32⟩
  | 90 => ⟨S_, .f32⟩
  | 91 => ⟨S10, .f32⟩
  | 92 => ⟨S10, .f32⟩
  | 93 => ⟨S_, .i32⟩
  | 94 => ⟨S1, .i32⟩
  | 95 => ⟨S10x10, .f32⟩
  | 96 => ⟨S10x1, .f32⟩
  | 97 => ⟨S10, .f32⟩
  | 98 => ⟨S1x10, .f32⟩
  | 99 => ⟨S10, .f32⟩
  | 100 => ⟨S10, .f32⟩
  | 101 => ⟨S10, .f32⟩
  | 102 => ⟨S_, .i32⟩
  | 103 => ⟨S10, .i32⟩
  | 104 => ⟨S10, .i1⟩
  | 105 => ⟨S1, .f32⟩
  | 106 => ⟨S_, .f32⟩
  | 107 => ⟨S_, .f32⟩
  | 108 => ⟨S10, .f32⟩
  | 109 => ⟨S10, .f32⟩
  | 110 => ⟨S_, .f32⟩
  | 111 => ⟨S_, .f32⟩
  | 112 => ⟨S10, .f32⟩
  | 113 => ⟨S10, .f32⟩
  | 114 => ⟨S_, .i32⟩
  | 115 => ⟨S1, .i32⟩
  | 116 => ⟨S10x10, .f32⟩
  | 117 => ⟨S10x1, .f32⟩
  | 118 => ⟨S10, .f32⟩
  | 119 => ⟨S1x10, .f32⟩
  | 120 => ⟨S10, .f32⟩
  | 121 => ⟨S10, .f32⟩
  | 122 => ⟨S10, .f32⟩
  | 123 => ⟨S_, .i32⟩
  | 124 => ⟨S10, .i32⟩
  | 125 => ⟨S10, .i1⟩
  | 126 => ⟨S1, .f32⟩
  | 127 => ⟨S_, .f32⟩
  | _ => ⟨S4096x128, .f32⟩

abbrev hbmTy0_1 (i : Nat) : BufTy := match i % 128 with
  | 0 => ⟨S_, .f32⟩
  | 1 => ⟨S10, .f32⟩
  | 2 => ⟨S10, .f32⟩
  | 3 => ⟨S_, .f32⟩
  | 4 => ⟨S_, .f32⟩
  | 5 => ⟨S10, .f32⟩
  | 6 => ⟨S10, .f32⟩
  | 7 => ⟨S_, .i32⟩
  | 8 => ⟨S1, .i32⟩
  | 9 => ⟨S10x10, .f32⟩
  | 10 => ⟨S10x1, .f32⟩
  | 11 => ⟨S10, .f32⟩
  | 12 => ⟨S1x10, .f32⟩
  | 13 => ⟨S10, .f32⟩
  | 14 => ⟨S10, .f32⟩
  | 15 => ⟨S10, .f32⟩
  | 16 => ⟨S_, .i32⟩
  | 17 => ⟨S10, .i32⟩
  | 18 => ⟨S10, .i1⟩
  | 19 => ⟨S1, .f32⟩
  | 20 => ⟨S_, .f32⟩
  | 21 => ⟨S_, .f32⟩
  | 22 => ⟨S10, .f32⟩
  | 23 => ⟨S10, .f32⟩
  | 24 => ⟨S_, .f32⟩
  | 25 => ⟨S_, .f32⟩
  | 26 => ⟨S10, .f32⟩
  | 27 => ⟨S10, .f32⟩
  | 28 => ⟨S_, .i32⟩
  | 29 => ⟨S1, .i32⟩
  | 30 => ⟨S10x10, .f32⟩
  | 31 => ⟨S10x1, .f32⟩
  | 32 => ⟨S10, .f32⟩
  | 33 => ⟨S1x10, .f32⟩
  | 34 => ⟨S10, .f32⟩
  | 35 => ⟨S10, .f32⟩
  | 36 => ⟨S10, .f32⟩
  | 37 => ⟨S_, .i32⟩
  | 38 => ⟨S10, .i32⟩
  | 39 => ⟨S10, .i1⟩
  | 40 => ⟨S1, .f32⟩
  | 41 => ⟨S_, .f32⟩
  | 42 => ⟨S_, .f32⟩
  | 43 => ⟨S10, .f32⟩
  | 44 => ⟨S10, .f32⟩
  | 45 => ⟨S_, .f32⟩
  | 46 => ⟨S_, .f32⟩
  | 47 => ⟨S10, .f32⟩
  | 48 => ⟨S10, .f32⟩
  | 49 => ⟨S_, .i32⟩
  | 50 => ⟨S1, .i32⟩
  | 51 => ⟨S10x10, .f32⟩
  | 52 => ⟨S10x1, .f32⟩
  | 53 => ⟨S10, .f32⟩
  | 54 => ⟨S1x10, .f32⟩
  | 55 => ⟨S10, .f32⟩
  | 56 => ⟨S10, .f32⟩
  | 57 => ⟨S10, .f32⟩
  | 58 => ⟨S_, .i32⟩
  | 59 => ⟨S10, .i32⟩
  | 60 => ⟨S10, .i1⟩
  | 61 => ⟨S1, .f32⟩
  | 62 => ⟨S_, .f32⟩
  | 63 => ⟨S_, .f32⟩
  | 64 => ⟨S10, .f32⟩
  | 65 => ⟨S10, .f32⟩
  | 66 => ⟨S_, .f32⟩
  | 67 => ⟨S_, .f32⟩
  | 68 => ⟨S10, .f32⟩
  | 69 => ⟨S10, .f32⟩
  | 70 => ⟨S_, .i32⟩
  | 71 => ⟨S1, .i32⟩
  | 72 => ⟨S10x10, .f32⟩
  | 73 => ⟨S10x1, .f32⟩
  | 74 => ⟨S10, .f32⟩
  | 75 => ⟨S1x10, .f32⟩
  | 76 => ⟨S10, .f32⟩
  | 77 => ⟨S10, .f32⟩
  | 78 => ⟨S10, .f32⟩
  | 79 => ⟨S_, .i32⟩
  | 80 => ⟨S10, .i32⟩
  | 81 => ⟨S10, .i1⟩
  | 82 => ⟨S1, .f32⟩
  | 83 => ⟨S_, .f32⟩
  | 84 => ⟨S_, .f32⟩
  | 85 => ⟨S10, .f32⟩
  | 86 => ⟨S10, .f32⟩
  | 87 => ⟨S_, .f32⟩
  | 88 => ⟨S_, .f32⟩
  | 89 => ⟨S10, .f32⟩
  | 90 => ⟨S10, .f32⟩
  | 91 => ⟨S_, .i32⟩
  | 92 => ⟨S1, .i32⟩
  | 93 => ⟨S10x10, .f32⟩
  | 94 => ⟨S10x1, .f32⟩
  | 95 => ⟨S10, .f32⟩
  | 96 => ⟨S1x10, .f32⟩
  | 97 => ⟨S10, .f32⟩
  | 98 => ⟨S10, .f32⟩
  | 99 => ⟨S10, .f32⟩
  | 100 => ⟨S_, .i32⟩
  | 101 => ⟨S10, .i32⟩
  | 102 => ⟨S10, .i1⟩
  | 103 => ⟨S1, .f32⟩
  | 104 => ⟨S_, .f32⟩
  | 105 => ⟨S_, .f32⟩
  | 106 => ⟨S10, .f32⟩
  | 107 => ⟨S10, .f32⟩
  | 108 => ⟨S_, .f32⟩
  | 109 => ⟨S_, .f32⟩
  | 110 => ⟨S10, .f32⟩
  | 111 => ⟨S10, .f32⟩
  | 112 => ⟨S_, .i32⟩
  | 113 => ⟨S1, .i32⟩
  | 114 => ⟨S10x10, .f32⟩
  | 115 => ⟨S10x1, .f32⟩
  | 116 => ⟨S10, .f32⟩
  | 117 => ⟨S1x10, .f32⟩
  | 118 => ⟨S10, .f32⟩
  | 119 => ⟨S10, .f32⟩
  | 120 => ⟨S10, .f32⟩
  | 121 => ⟨S_, .i32⟩
  | 122 => ⟨S10, .i32⟩
  | 123 => ⟨S10, .i1⟩
  | 124 => ⟨S1, .f32⟩
  | 125 => ⟨S_, .f32⟩
  | 126 => ⟨S_, .f32⟩
  | 127 => ⟨S10, .f32⟩
  | _ => ⟨S4096x128, .f32⟩

abbrev hbmTy0_2 (i : Nat) : BufTy := match i % 128 with
  | 0 => ⟨S10, .f32⟩
  | 1 => ⟨S_, .f32⟩
  | 2 => ⟨S_, .f32⟩
  | 3 => ⟨S10, .f32⟩
  | 4 => ⟨S10, .f32⟩
  | 5 => ⟨S_, .i32⟩
  | 6 => ⟨S1, .i32⟩
  | 7 => ⟨S10x10, .f32⟩
  | 8 => ⟨S_, .f32⟩
  | 9 => ⟨S_, .f32⟩
  | 10 => ⟨S_, .f32⟩
  | 11 => ⟨S10x10, .f32⟩
  | 12 => ⟨S10x10, .i32⟩
  | 13 => ⟨S10x10, .i32⟩
  | 14 => ⟨S_, .i32⟩
  | 15 => ⟨S10x10, .i32⟩
  | 16 => ⟨S10x10, .i32⟩
  | 17 => ⟨S10x10, .i1⟩
  | 18 => ⟨S10x10, .f32⟩
  | 19 => ⟨S1x10, .f32⟩
  | 20 => ⟨S10, .f32⟩
  | 21 => ⟨S1x10, .f32⟩
  | 22 => ⟨S10, .f32⟩
  | 23 => ⟨S10, .f32⟩
  | 24 => ⟨S10, .f32⟩
  | 25 => ⟨S1x1, .f32⟩
  | 26 => ⟨S_, .f32⟩
  | 27 => ⟨S10, .f32⟩
  | 28 => ⟨S10, .f32⟩
  | 29 => ⟨S_, .i32⟩
  | 30 => ⟨S1, .i32⟩
  | 31 => ⟨S10x10, .f32⟩
  | 32 => ⟨S1x10, .f32⟩
  | 33 => ⟨S10, .f32⟩
  | 34 => ⟨S1x10, .f32⟩
  | 35 => ⟨S10, .f32⟩
  | 36 => ⟨S10, .f32⟩
  | 37 => ⟨S10, .f32⟩
  | 38 => ⟨S1x1, .f32⟩
  | 39 => ⟨S_, .f32⟩
  | 40 => ⟨S10, .f32⟩
  | 41 => ⟨S10, .f32⟩
  | 42 => ⟨S_, .i32⟩
  | 43 => ⟨S1, .i32⟩
  | 44 => ⟨S10x10, .f32⟩
  | 45 => ⟨S1x10, .f32⟩
  | 46 => ⟨S10, .f32⟩
  | 47 => ⟨S1x10, .f32⟩
  | 48 => ⟨S10, .f32⟩
  | 49 => ⟨S10, .f32⟩
  | 50 => ⟨S10, .f32⟩
  | 51 => ⟨S1x1, .f32⟩
  | 52 => ⟨S_, .f32⟩
  | 53 => ⟨S10, .f32⟩
  | 54 => ⟨S10, .f32⟩
  | 55 => ⟨S_, .i32⟩
  | 56 => ⟨S1, .i32⟩
  | 57 => ⟨S10x10, .f32⟩
  | 58 => ⟨S1x10, .f32⟩
  | 59 => ⟨S10, .f32⟩
  | 60 => ⟨S1x10, .f32⟩
  | 61 => ⟨S10, .f32⟩
  | 62 => ⟨S10, .f32⟩
  | 63 => ⟨S10, .f32⟩
  | 64 => ⟨S1x1, .f32⟩
  | 65 => ⟨S_, .f32⟩
  | 66 => ⟨S10, .f32⟩
  | 67 => ⟨S10, .f32⟩
  | 68 => ⟨S_, .i32⟩
  | 69 => ⟨S1, .i32⟩
  | 70 => ⟨S10x10, .f32⟩
  | 71 => ⟨S1x10, .f32⟩
  | 72 => ⟨S10, .f32⟩
  | 73 => ⟨S1x10, .f32⟩
  | 74 => ⟨S10, .f32⟩
  | 75 => ⟨S10, .f32⟩
  | 76 => ⟨S10, .f32⟩
  | 77 => ⟨S1x1, .f32⟩
  | 78 => ⟨S_, .f32⟩
  | 79 => ⟨S10, .f32⟩
  | 80 => ⟨S10, .f32⟩
  | 81 => ⟨S_, .i32⟩
  | 82 => ⟨S1, .i32⟩
  | 83 => ⟨S10x10, .f32⟩
  | 84 => ⟨S1x10, .f32⟩
  | 85 => ⟨S10, .f32⟩
  | 86 => ⟨S1x10, .f32⟩
  | 87 => ⟨S10, .f32⟩
  | 88 => ⟨S10, .f32⟩
  | 89 => ⟨S10, .f32⟩
  | 90 => ⟨S1x1, .f32⟩
  | 91 => ⟨S_, .f32⟩
  | 92 => ⟨S10, .f32⟩
  | 93 => ⟨S10, .f32⟩
  | 94 => ⟨S_, .i32⟩
  | 95 => ⟨S1, .i32⟩
  | 96 => ⟨S10x10, .f32⟩
  | 97 => ⟨S1x10, .f32⟩
  | 98 => ⟨S10, .f32⟩
  | 99 => ⟨S1x10, .f32⟩
  | 100 => ⟨S10, .f32⟩
  | 101 => ⟨S10, .f32⟩
  | 102 => ⟨S10, .f32⟩
  | 103 => ⟨S1x1, .f32⟩
  | 104 => ⟨S_, .f32⟩
  | 105 => ⟨S10, .f32⟩
  | 106 => ⟨S10, .f32⟩
  | 107 => ⟨S_, .i32⟩
  | 108 => ⟨S1, .i32⟩
  | 109 => ⟨S10x10, .f32⟩
  | 110 => ⟨S1x10, .f32⟩
  | 111 => ⟨S10, .f32⟩
  | 112 => ⟨S1x10, .f32⟩
  | 113 => ⟨S10, .f32⟩
  | 114 => ⟨S10, .f32⟩
  | 115 => ⟨S10, .f32⟩
  | 116 => ⟨S1x1, .f32⟩
  | 117 => ⟨S_, .f32⟩
  | 118 => ⟨S10, .f32⟩
  | 119 => ⟨S10, .f32⟩
  | 120 => ⟨S_, .i32⟩
  | 121 => ⟨S1, .i32⟩
  | 122 => ⟨S10x10, .f32⟩
  | 123 => ⟨S1x10, .f32⟩
  | 124 => ⟨S10, .f32⟩
  | 125 => ⟨S1x10, .f32⟩
  | 126 => ⟨S10, .f32⟩
  | 127 => ⟨S10, .f32⟩
  | _ => ⟨S4096x128, .f32⟩

abbrev hbmTy0_3 (i : Nat) : BufTy := match i % 128 with
  | 0 => ⟨S10, .f32⟩
  | 1 => ⟨S1x1, .f32⟩
  | 2 => ⟨S_, .f32⟩
  | 3 => ⟨S10, .f32⟩
  | 4 => ⟨S10, .f32⟩
  | 5 => ⟨S_, .i32⟩
  | 6 => ⟨S1, .i32⟩
  | 7 => ⟨S10x10, .f32⟩
  | 8 => ⟨S1x10, .f32⟩
  | 9 => ⟨S10, .f32⟩
  | 10 => ⟨S1x10, .f32⟩
  | 11 => ⟨S10, .f32⟩
  | 12 => ⟨S10, .f32⟩
  | 13 => ⟨S10, .f32⟩
  | 14 => ⟨S1x1, .f32⟩
  | 15 => ⟨S_, .f32⟩
  | 16 => ⟨S10, .f32⟩
  | 17 => ⟨S10, .f32⟩
  | 18 => ⟨S_, .i32⟩
  | 19 => ⟨S1, .i32⟩
  | 20 => ⟨S10x10, .f32⟩
  | 21 => ⟨S10x10, .f32⟩
  | 22 => ⟨S4096x10, .f32⟩
  | 23 => ⟨S4096x10, .f32⟩
  | 24 => ⟨S4096x10, .f32⟩
  | 25 => ⟨S4096x64, .f32⟩
  | 26 => ⟨S4096x64, .f32⟩
  | 27 => ⟨S_, .f32⟩
  | 28 => ⟨S4096x64, .f32⟩
  | 29 => ⟨S4096x64, .f32⟩
  | 30 => ⟨S4096x10, .f32⟩
  | 31 => ⟨S4096x10, .f32⟩
  | _ => ⟨S4096x128, .f32⟩

abbrev hbmTy (i : Nat) : BufTy := match i / 128 with
  | 0 => hbmTy0_0 i
  | 1 => hbmTy0_1 i
  | 2 => hbmTy0_2 i
  | 3 => hbmTy0_3 i
  | _ => ⟨S4096x128, .f32⟩

abbrev bufTy : (tb : Table) → Fin (tcTables nBuf tb) → BufTy
  | .hbm, ⟨i, _⟩ => hbmTy i
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_1 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_2 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_3 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_c_4 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_5 : Ref sig .tc := ⟨.hbm, 68, rfl⟩
abbrev main_call0_v0 : Ref sig .tc := ⟨.hbm, 69, rfl⟩
abbrev main_call0_v1 : Ref sig .tc := ⟨.hbm, 70, rfl⟩
abbrev main_v49 : Ref sig .tc := ⟨.hbm, 71, rfl⟩
abbrev main_c_6 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_c_7 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_8 : Ref sig .tc := ⟨.hbm, 89, rfl⟩
abbrev main_call1_v0 : Ref sig .tc := ⟨.hbm, 90, rfl⟩
abbrev main_call1_v1 : Ref sig .tc := ⟨.hbm, 91, rfl⟩
abbrev main_v65 : Ref sig .tc := ⟨.hbm, 92, rfl⟩
abbrev main_c_9 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_c_10 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_cst_11 : Ref sig .tc := ⟨.hbm, 110, rfl⟩
abbrev main_call2_v0 : Ref sig .tc := ⟨.hbm, 111, rfl⟩
abbrev main_call2_v1 : Ref sig .tc := ⟨.hbm, 112, rfl⟩
abbrev main_v81 : Ref sig .tc := ⟨.hbm, 113, rfl⟩
abbrev main_c_12 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_c_13 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_cst_14 : Ref sig .tc := ⟨.hbm, 131, rfl⟩
abbrev main_call3_v0 : Ref sig .tc := ⟨.hbm, 132, rfl⟩
abbrev main_call3_v1 : Ref sig .tc := ⟨.hbm, 133, rfl⟩
abbrev main_v97 : Ref sig .tc := ⟨.hbm, 134, rfl⟩
abbrev main_c_15 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_c_16 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_cst_17 : Ref sig .tc := ⟨.hbm, 152, rfl⟩
abbrev main_call4_v0 : Ref sig .tc := ⟨.hbm, 153, rfl⟩
abbrev main_call4_v1 : Ref sig .tc := ⟨.hbm, 154, rfl⟩
abbrev main_v113 : Ref sig .tc := ⟨.hbm, 155, rfl⟩
abbrev main_c_18 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_c_19 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_cst_20 : Ref sig .tc := ⟨.hbm, 173, rfl⟩
abbrev main_call5_v0 : Ref sig .tc := ⟨.hbm, 174, rfl⟩
abbrev main_call5_v1 : Ref sig .tc := ⟨.hbm, 175, rfl⟩
abbrev main_v129 : Ref sig .tc := ⟨.hbm, 176, rfl⟩
abbrev main_c_21 : Ref sig .tc := ⟨.hbm, 177, rfl⟩
abbrev main_v130 : Ref sig .tc := ⟨.hbm, 178, rfl⟩
abbrev main_v131 : Ref sig .tc := ⟨.hbm, 179, rfl⟩
abbrev main_v132 : Ref sig .tc := ⟨.hbm, 180, rfl⟩
abbrev main_v133 : Ref sig .tc := ⟨.hbm, 181, rfl⟩
abbrev main_v134 : Ref sig .tc := ⟨.hbm, 182, rfl⟩
abbrev main_v135 : Ref sig .tc := ⟨.hbm, 183, rfl⟩
abbrev main_v136 : Ref sig .tc := ⟨.hbm, 184, rfl⟩
abbrev main_v137 : Ref sig .tc := ⟨.hbm, 185, rfl⟩
abbrev main_c_22 : Ref sig .tc := ⟨.hbm, 186, rfl⟩
abbrev main_v138 : Ref sig .tc := ⟨.hbm, 187, rfl⟩
abbrev main_v139 : Ref sig .tc := ⟨.hbm, 188, rfl⟩
abbrev main_v140 : Ref sig .tc := ⟨.hbm, 189, rfl⟩
abbrev main_v141 : Ref sig .tc := ⟨.hbm, 190, rfl⟩
abbrev main_v142 : Ref sig .tc := ⟨.hbm, 191, rfl⟩
abbrev main_v143 : Ref sig .tc := ⟨.hbm, 192, rfl⟩
abbrev main_v144 : Ref sig .tc := ⟨.hbm, 193, rfl⟩
abbrev main_cst_23 : Ref sig .tc := ⟨.hbm, 194, rfl⟩
abbrev main_call6_v0 : Ref sig .tc := ⟨.hbm, 195, rfl⟩
abbrev main_call6_v1 : Ref sig .tc := ⟨.hbm, 196, rfl⟩
abbrev main_v145 : Ref sig .tc := ⟨.hbm, 197, rfl⟩
abbrev main_c_24 : Ref sig .tc := ⟨.hbm, 198, rfl⟩
abbrev main_v146 : Ref sig .tc := ⟨.hbm, 199, rfl⟩
abbrev main_v147 : Ref sig .tc := ⟨.hbm, 200, rfl⟩
abbrev main_v148 : Ref sig .tc := ⟨.hbm, 201, rfl⟩
abbrev main_v149 : Ref sig .tc := ⟨.hbm, 202, rfl⟩
abbrev main_v150 : Ref sig .tc := ⟨.hbm, 203, rfl⟩
abbrev main_v151 : Ref sig .tc := ⟨.hbm, 204, rfl⟩
abbrev main_v152 : Ref sig .tc := ⟨.hbm, 205, rfl⟩
abbrev main_v153 : Ref sig .tc := ⟨.hbm, 206, rfl⟩
abbrev main_c_25 : Ref sig .tc := ⟨.hbm, 207, rfl⟩
abbrev main_v154 : Ref sig .tc := ⟨.hbm, 208, rfl⟩
abbrev main_v155 : Ref sig .tc := ⟨.hbm, 209, rfl⟩
abbrev main_v156 : Ref sig .tc := ⟨.hbm, 210, rfl⟩
abbrev main_v157 : Ref sig .tc := ⟨.hbm, 211, rfl⟩
abbrev main_v158 : Ref sig .tc := ⟨.hbm, 212, rfl⟩
abbrev main_v159 : Ref sig .tc := ⟨.hbm, 213, rfl⟩
abbrev main_v160 : Ref sig .tc := ⟨.hbm, 214, rfl⟩
abbrev main_cst_26 : Ref sig .tc := ⟨.hbm, 215, rfl⟩
abbrev main_call7_v0 : Ref sig .tc := ⟨.hbm, 216, rfl⟩
abbrev main_call7_v1 : Ref sig .tc := ⟨.hbm, 217, rfl⟩
abbrev main_v161 : Ref sig .tc := ⟨.hbm, 218, rfl⟩
abbrev main_c_27 : Ref sig .tc := ⟨.hbm, 219, rfl⟩
abbrev main_v162 : Ref sig .tc := ⟨.hbm, 220, rfl⟩
abbrev main_v163 : Ref sig .tc := ⟨.hbm, 221, rfl⟩
abbrev main_v164 : Ref sig .tc := ⟨.hbm, 222, rfl⟩
abbrev main_v165 : Ref sig .tc := ⟨.hbm, 223, rfl⟩
abbrev main_v166 : Ref sig .tc := ⟨.hbm, 224, rfl⟩
abbrev main_v167 : Ref sig .tc := ⟨.hbm, 225, rfl⟩
abbrev main_v168 : Ref sig .tc := ⟨.hbm, 226, rfl⟩
abbrev main_v169 : Ref sig .tc := ⟨.hbm, 227, rfl⟩
abbrev main_c_28 : Ref sig .tc := ⟨.hbm, 228, rfl⟩
abbrev main_v170 : Ref sig .tc := ⟨.hbm, 229, rfl⟩
abbrev main_v171 : Ref sig .tc := ⟨.hbm, 230, rfl⟩
abbrev main_v172 : Ref sig .tc := ⟨.hbm, 231, rfl⟩
abbrev main_v173 : Ref sig .tc := ⟨.hbm, 232, rfl⟩
abbrev main_v174 : Ref sig .tc := ⟨.hbm, 233, rfl⟩
abbrev main_v175 : Ref sig .tc := ⟨.hbm, 234, rfl⟩
abbrev main_v176 : Ref sig .tc := ⟨.hbm, 235, rfl⟩
abbrev main_cst_29 : Ref sig .tc := ⟨.hbm, 236, rfl⟩
abbrev main_call8_v0 : Ref sig .tc := ⟨.hbm, 237, rfl⟩
abbrev main_call8_v1 : Ref sig .tc := ⟨.hbm, 238, rfl⟩
abbrev main_v177 : Ref sig .tc := ⟨.hbm, 239, rfl⟩
abbrev main_c_30 : Ref sig .tc := ⟨.hbm, 240, rfl⟩
abbrev main_v178 : Ref sig .tc := ⟨.hbm, 241, rfl⟩
abbrev main_v179 : Ref sig .tc := ⟨.hbm, 242, rfl⟩
abbrev main_v180 : Ref sig .tc := ⟨.hbm, 243, rfl⟩
abbrev main_v181 : Ref sig .tc := ⟨.hbm, 244, rfl⟩
abbrev main_v182 : Ref sig .tc := ⟨.hbm, 245, rfl⟩
abbrev main_v183 : Ref sig .tc := ⟨.hbm, 246, rfl⟩
abbrev main_v184 : Ref sig .tc := ⟨.hbm, 247, rfl⟩
abbrev main_v185 : Ref sig .tc := ⟨.hbm, 248, rfl⟩
abbrev main_c_31 : Ref sig .tc := ⟨.hbm, 249, rfl⟩
abbrev main_v186 : Ref sig .tc := ⟨.hbm, 250, rfl⟩
abbrev main_v187 : Ref sig .tc := ⟨.hbm, 251, rfl⟩
abbrev main_v188 : Ref sig .tc := ⟨.hbm, 252, rfl⟩
abbrev main_v189 : Ref sig .tc := ⟨.hbm, 253, rfl⟩
abbrev main_v190 : Ref sig .tc := ⟨.hbm, 254, rfl⟩
abbrev main_v191 : Ref sig .tc := ⟨.hbm, 255, rfl⟩
abbrev main_v192 : Ref sig .tc := ⟨.hbm, 256, rfl⟩
abbrev main_cst_32 : Ref sig .tc := ⟨.hbm, 257, rfl⟩
abbrev main_call9_v0 : Ref sig .tc := ⟨.hbm, 258, rfl⟩
abbrev main_call9_v1 : Ref sig .tc := ⟨.hbm, 259, rfl⟩
abbrev main_v193 : Ref sig .tc := ⟨.hbm, 260, rfl⟩
abbrev main_c_33 : Ref sig .tc := ⟨.hbm, 261, rfl⟩
abbrev main_v194 : Ref sig .tc := ⟨.hbm, 262, rfl⟩
abbrev main_v195 : Ref sig .tc := ⟨.hbm, 263, rfl⟩
abbrev main_cst_34 : Ref sig .tc := ⟨.hbm, 264, rfl⟩
abbrev main_v196 : Ref sig .tc := ⟨.hbm, 265, rfl⟩
abbrev main_cst_35 : Ref sig .tc := ⟨.hbm, 266, rfl⟩
abbrev main_v197 : Ref sig .tc := ⟨.hbm, 267, rfl⟩
abbrev main_v198 : Ref sig .tc := ⟨.hbm, 268, rfl⟩
abbrev main_v199 : Ref sig .tc := ⟨.hbm, 269, rfl⟩
abbrev main_c_36 : Ref sig .tc := ⟨.hbm, 270, rfl⟩
abbrev main_v200 : Ref sig .tc := ⟨.hbm, 271, rfl⟩
abbrev main_v201 : Ref sig .tc := ⟨.hbm, 272, rfl⟩
abbrev main_v202 : Ref sig .tc := ⟨.hbm, 273, rfl⟩
abbrev main_v203 : Ref sig .tc := ⟨.hbm, 274, rfl⟩
abbrev main_v204 : Ref sig .tc := ⟨.hbm, 275, rfl⟩
abbrev main_v205 : Ref sig .tc := ⟨.hbm, 276, rfl⟩
abbrev main_v206 : Ref sig .tc := ⟨.hbm, 277, rfl⟩
abbrev main_v207 : Ref sig .tc := ⟨.hbm, 278, rfl⟩
abbrev main_v208 : Ref sig .tc := ⟨.hbm, 279, rfl⟩
abbrev main_v209 : Ref sig .tc := ⟨.hbm, 280, rfl⟩
abbrev main_v210 : Ref sig .tc := ⟨.hbm, 281, rfl⟩
abbrev main_v211 : Ref sig .tc := ⟨.hbm, 282, rfl⟩
abbrev main_v212 : Ref sig .tc := ⟨.hbm, 283, rfl⟩
abbrev main_v213 : Ref sig .tc := ⟨.hbm, 284, rfl⟩
abbrev main_c_37 : Ref sig .tc := ⟨.hbm, 285, rfl⟩
abbrev main_v214 : Ref sig .tc := ⟨.hbm, 286, rfl⟩
abbrev main_v215 : Ref sig .tc := ⟨.hbm, 287, rfl⟩
abbrev main_v216 : Ref sig .tc := ⟨.hbm, 288, rfl⟩
abbrev main_v217 : Ref sig .tc := ⟨.hbm, 289, rfl⟩
abbrev main_v218 : Ref sig .tc := ⟨.hbm, 290, rfl⟩
abbrev main_v219 : Ref sig .tc := ⟨.hbm, 291, rfl⟩
abbrev main_v220 : Ref sig .tc := ⟨.hbm, 292, rfl⟩
abbrev main_v221 : Ref sig .tc := ⟨.hbm, 293, rfl⟩
abbrev main_v222 : Ref sig .tc := ⟨.hbm, 294, rfl⟩
abbrev main_v223 : Ref sig .tc := ⟨.hbm, 295, rfl⟩
abbrev main_v224 : Ref sig .tc := ⟨.hbm, 296, rfl⟩
abbrev main_v225 : Ref sig .tc := ⟨.hbm, 297, rfl⟩
abbrev main_c_38 : Ref sig .tc := ⟨.hbm, 298, rfl⟩
abbrev main_v226 : Ref sig .tc := ⟨.hbm, 299, rfl⟩
abbrev main_v227 : Ref sig .tc := ⟨.hbm, 300, rfl⟩
abbrev main_v228 : Ref sig .tc := ⟨.hbm, 301, rfl⟩
abbrev main_v229 : Ref sig .tc := ⟨.hbm, 302, rfl⟩
abbrev main_v230 : Ref sig .tc := ⟨.hbm, 303, rfl⟩
abbrev main_v231 : Ref sig .tc := ⟨.hbm, 304, rfl⟩
abbrev main_v232 : Ref sig .tc := ⟨.hbm, 305, rfl⟩
abbrev main_v233 : Ref sig .tc := ⟨.hbm, 306, rfl⟩
abbrev main_v234 : Ref sig .tc := ⟨.hbm, 307, rfl⟩
abbrev main_v235 : Ref sig .tc := ⟨.hbm, 308, rfl⟩
abbrev main_v236 : Ref sig .tc := ⟨.hbm, 309, rfl⟩
abbrev main_v237 : Ref sig .tc := ⟨.hbm, 310, rfl⟩
abbrev main_c_39 : Ref sig .tc := ⟨.hbm, 311, rfl⟩
abbrev main_v238 : Ref sig .tc := ⟨.hbm, 312, rfl⟩
abbrev main_v239 : Ref sig .tc := ⟨.hbm, 313, rfl⟩
abbrev main_v240 : Ref sig .tc := ⟨.hbm, 314, rfl⟩
abbrev main_v241 : Ref sig .tc := ⟨.hbm, 315, rfl⟩
abbrev main_v242 : Ref sig .tc := ⟨.hbm, 316, rfl⟩
abbrev main_v243 : Ref sig .tc := ⟨.hbm, 317, rfl⟩
abbrev main_v244 : Ref sig .tc := ⟨.hbm, 318, rfl⟩
abbrev main_v245 : Ref sig .tc := ⟨.hbm, 319, rfl⟩
abbrev main_v246 : Ref sig .tc := ⟨.hbm, 320, rfl⟩
abbrev main_v247 : Ref sig .tc := ⟨.hbm, 321, rfl⟩
abbrev main_v248 : Ref sig .tc := ⟨.hbm, 322, rfl⟩
abbrev main_v249 : Ref sig .tc := ⟨.hbm, 323, rfl⟩
abbrev main_c_40 : Ref sig .tc := ⟨.hbm, 324, rfl⟩
abbrev main_v250 : Ref sig .tc := ⟨.hbm, 325, rfl⟩
abbrev main_v251 : Ref sig .tc := ⟨.hbm, 326, rfl⟩
abbrev main_v252 : Ref sig .tc := ⟨.hbm, 327, rfl⟩
abbrev main_v253 : Ref sig .tc := ⟨.hbm, 328, rfl⟩
abbrev main_v254 : Ref sig .tc := ⟨.hbm, 329, rfl⟩
abbrev main_v255 : Ref sig .tc := ⟨.hbm, 330, rfl⟩
abbrev main_v256 : Ref sig .tc := ⟨.hbm, 331, rfl⟩
abbrev main_v257 : Ref sig .tc := ⟨.hbm, 332, rfl⟩
abbrev main_v258 : Ref sig .tc := ⟨.hbm, 333, rfl⟩
abbrev main_v259 : Ref sig .tc := ⟨.hbm, 334, rfl⟩
abbrev main_v260 : Ref sig .tc := ⟨.hbm, 335, rfl⟩
abbrev main_v261 : Ref sig .tc := ⟨.hbm, 336, rfl⟩
abbrev main_c_41 : Ref sig .tc := ⟨.hbm, 337, rfl⟩
abbrev main_v262 : Ref sig .tc := ⟨.hbm, 338, rfl⟩
abbrev main_v263 : Ref sig .tc := ⟨.hbm, 339, rfl⟩
abbrev main_v264 : Ref sig .tc := ⟨.hbm, 340, rfl⟩
abbrev main_v265 : Ref sig .tc := ⟨.hbm, 341, rfl⟩
abbrev main_v266 : Ref sig .tc := ⟨.hbm, 342, rfl⟩
abbrev main_v267 : Ref sig .tc := ⟨.hbm, 343, rfl⟩
abbrev main_v268 : Ref sig .tc := ⟨.hbm, 344, rfl⟩
abbrev main_v269 : Ref sig .tc := ⟨.hbm, 345, rfl⟩
abbrev main_v270 : Ref sig .tc := ⟨.hbm, 346, rfl⟩
abbrev main_v271 : Ref sig .tc := ⟨.hbm, 347, rfl⟩
abbrev main_v272 : Ref sig .tc := ⟨.hbm, 348, rfl⟩
abbrev main_v273 : Ref sig .tc := ⟨.hbm, 349, rfl⟩
abbrev main_c_42 : Ref sig .tc := ⟨.hbm, 350, rfl⟩
abbrev main_v274 : Ref sig .tc := ⟨.hbm, 351, rfl⟩
abbrev main_v275 : Ref sig .tc := ⟨.hbm, 352, rfl⟩
abbrev main_v276 : Ref sig .tc := ⟨.hbm, 353, rfl⟩
abbrev main_v277 : Ref sig .tc := ⟨.hbm, 354, rfl⟩
abbrev main_v278 : Ref sig .tc := ⟨.hbm, 355, rfl⟩
abbrev main_v279 : Ref sig .tc := ⟨.hbm, 356, rfl⟩
abbrev main_v280 : Ref sig .tc := ⟨.hbm, 357, rfl⟩
abbrev main_v281 : Ref sig .tc := ⟨.hbm, 358, rfl⟩
abbrev main_v282 : Ref sig .tc := ⟨.hbm, 359, rfl⟩
abbrev main_v283 : Ref sig .tc := ⟨.hbm, 360, rfl⟩
abbrev main_v284 : Ref sig .tc := ⟨.hbm, 361, rfl⟩
abbrev main_v285 : Ref sig .tc := ⟨.hbm, 362, rfl⟩
abbrev main_c_43 : Ref sig .tc := ⟨.hbm, 363, rfl⟩
abbrev main_v286 : Ref sig .tc := ⟨.hbm, 364, rfl⟩
abbrev main_v287 : Ref sig .tc := ⟨.hbm, 365, rfl⟩
abbrev main_v288 : Ref sig .tc := ⟨.hbm, 366, rfl⟩
abbrev main_v289 : Ref sig .tc := ⟨.hbm, 367, rfl⟩
abbrev main_v290 : Ref sig .tc := ⟨.hbm, 368, rfl⟩
abbrev main_v291 : Ref sig .tc := ⟨.hbm, 369, rfl⟩
abbrev main_v292 : Ref sig .tc := ⟨.hbm, 370, rfl⟩
abbrev main_v293 : Ref sig .tc := ⟨.hbm, 371, rfl⟩
abbrev main_v294 : Ref sig .tc := ⟨.hbm, 372, rfl⟩
abbrev main_v295 : Ref sig .tc := ⟨.hbm, 373, rfl⟩
abbrev main_v296 : Ref sig .tc := ⟨.hbm, 374, rfl⟩
abbrev main_v297 : Ref sig .tc := ⟨.hbm, 375, rfl⟩
abbrev main_c_44 : Ref sig .tc := ⟨.hbm, 376, rfl⟩
abbrev main_v298 : Ref sig .tc := ⟨.hbm, 377, rfl⟩
abbrev main_v299 : Ref sig .tc := ⟨.hbm, 378, rfl⟩
abbrev main_v300 : Ref sig .tc := ⟨.hbm, 379, rfl⟩
abbrev main_v301 : Ref sig .tc := ⟨.hbm, 380, rfl⟩
abbrev main_v302 : Ref sig .tc := ⟨.hbm, 381, rfl⟩
abbrev main_v303 : Ref sig .tc := ⟨.hbm, 382, rfl⟩
abbrev main_v304 : Ref sig .tc := ⟨.hbm, 383, rfl⟩
abbrev main_v305 : Ref sig .tc := ⟨.hbm, 384, rfl⟩
abbrev main_v306 : Ref sig .tc := ⟨.hbm, 385, rfl⟩
abbrev main_v307 : Ref sig .tc := ⟨.hbm, 386, rfl⟩
abbrev main_v308 : Ref sig .tc := ⟨.hbm, 387, rfl⟩
abbrev main_v309 : Ref sig .tc := ⟨.hbm, 388, rfl⟩
abbrev main_c_45 : Ref sig .tc := ⟨.hbm, 389, rfl⟩
abbrev main_v310 : Ref sig .tc := ⟨.hbm, 390, rfl⟩
abbrev main_v311 : Ref sig .tc := ⟨.hbm, 391, rfl⟩
abbrev main_v312 : Ref sig .tc := ⟨.hbm, 392, rfl⟩
abbrev main_v313 : Ref sig .tc := ⟨.hbm, 393, rfl⟩
abbrev main_v314 : Ref sig .tc := ⟨.hbm, 394, rfl⟩
abbrev main_v315 : Ref sig .tc := ⟨.hbm, 395, rfl⟩
abbrev main_v316 : Ref sig .tc := ⟨.hbm, 396, rfl⟩
abbrev main_v317 : Ref sig .tc := ⟨.hbm, 397, rfl⟩
abbrev main_v318 : Ref sig .tc := ⟨.hbm, 398, rfl⟩
abbrev main_v319 : Ref sig .tc := ⟨.hbm, 399, rfl⟩
abbrev main_v320 : Ref sig .tc := ⟨.hbm, 400, rfl⟩
abbrev main_v321 : Ref sig .tc := ⟨.hbm, 401, rfl⟩
abbrev main_c_46 : Ref sig .tc := ⟨.hbm, 402, rfl⟩
abbrev main_v322 : Ref sig .tc := ⟨.hbm, 403, rfl⟩
abbrev main_v323 : Ref sig .tc := ⟨.hbm, 404, rfl⟩
abbrev main_v324 : Ref sig .tc := ⟨.hbm, 405, rfl⟩
abbrev main_v325 : Ref sig .tc := ⟨.hbm, 406, rfl⟩
abbrev main_v326 : Ref sig .tc := ⟨.hbm, 407, rfl⟩
abbrev main_v327 : Ref sig .tc := ⟨.hbm, 408, rfl⟩
abbrev main_v328 : Ref sig .tc := ⟨.hbm, 409, rfl⟩
abbrev main_v329 : Ref sig .tc := ⟨.hbm, 410, rfl⟩
abbrev main_cst_47 : Ref sig .tc := ⟨.hbm, 411, rfl⟩
abbrev main_v330 : Ref sig .tc := ⟨.hbm, 412, rfl⟩
abbrev main_v331 : Ref sig .tc := ⟨.hbm, 413, rfl⟩
abbrev main_v332 : Ref sig .tc := ⟨.hbm, 414, rfl⟩
abbrev main_v333 : Ref sig .tc := ⟨.hbm, 415, rfl⟩

abbrev nD : Nat := 1
abbrev τ : Topo := Topo.v7x

variable {F : FTy → Type} [FloatOps F]
-- ==== Proof.Same.lean ====
/- The program and its idealization are the same program over any float values: what a run of one gives, a run of the other gives. -/
module

public import proofs.«01_k».proof.Proof.Gen.Kernel
public import proofs.«01_k».proof.Proof.Gen.KernelIdeal

@[expose] public section

set_option maxRecDepth 16384

namespace Cert.Same

open Idealize.ShloMosaic Idealize.SL.Sem

variable {F : FTy → Type} [FloatOps F] [Cert.Kernel.Facts] [Cert.KernelIdeal.Facts]

set_option maxHeartbeats 2000000 in
theorem body_eq : Cert.Kernel.defs₀ (F := F) = Cert.KernelIdeal.defs₀ (F := F) := by
  unfold Cert.Kernel.defs₀ Cert.KernelIdeal.defs₀
  refine congrArg Defs.onTc (funext fun l => funext fun a => ?_)
  match l, a with
  | ⟨0, _⟩, (t, s) => exact rfl
  | ⟨n + 1, h⟩, _ => exact absurd h (Nat.not_lt.2 (Nat.le_add_left _ _))

theorem defs_eq : Cert.Kernel.defs (F := F) = Cert.KernelIdeal.defs (F := F) := by
  unfold Cert.Kernel.defs Cert.KernelIdeal.defs
  exact congrArg (Pipeline.defs (Cert.KernelIdeal.pcfgs (F := F))) body_eq

theorem main_eq : Cert.Kernel.main (F := F) = Cert.KernelIdeal.main (F := F) := rfl

/-- What every run of the idealized program ends in, every run of the program ends in. -/
theorem run_of (m : (ℓ : Loc Cert.Kernel.nD Cert.Kernel.τ Cert.Kernel.sig) → Buf (Elt F) ℓ) (ρ : Dev Cert.Kernel.nD → PrngReg)
    (Q : PUnit × MemSt Cert.Kernel.nD Cert.Kernel.τ Cert.Kernel.sig (Elt F) → Prop)
    (h : θ_run (Cert.KernelIdeal.defs (F := F)) (onTc (τ := Cert.KernelIdeal.τ) (Cert.KernelIdeal.main (F := F))) ⟨m, fun _ => 0, ρ⟩ Q) :
    θ_run (Cert.Kernel.defs (F := F)) (onTc (τ := Cert.Kernel.τ) (Cert.Kernel.main (F := F))) ⟨m, fun _ => 0, ρ⟩ Q := by
  rw [defs_eq, main_eq]
  exact h

end Cert.Same

end
-- ==== Proof.Setting.lean ====
/- What the proofs about the kernel's body share: the conditions its branches test, at each of the sixteen grid points. -/
module

public import proofs.«01_k».proof.Proof.Gen.KernelIdeal.Frame
public import proofs.«01_k».proof.Proof.Gen.KernelIdeal.Skeleton
public import Idealize.ShloMosaic.Lib.VecWindow

@[expose] public section

set_option maxRecDepth 16384

namespace Cert.KernelIdeal.Hand

open Idealize.ShloMosaic Idealize.ShloMosaic.TcCoe Cert.KernelIdeal.Gen

/-- The first grid point: the branch that computes `x1`. -/
abbrev AtFirst (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1

/-- The two points that run half of the perceptron. -/
abbrev AtHalf (i : grid0.Coords) : Prop := k0_cond2 i = 1#1

/-- The points whose second coordinate is zero: there the Gram matrix is started. -/
abbrev AtZero (i : grid0.Coords) : Prop := (Scalar.cmpi .ne (Scalar.extui (Scalar.cmpi .eq (BitVec.ofNat 32 (i 1).val) 0#32)) 0#32) = 1#1

/-- The other points: there the Gram matrix is added to. -/
abbrev AtLater (i : grid0.Coords) : Prop := (Scalar.cmpi .ne (Scalar.extui (Scalar.cmpi .sgt (BitVec.ofNat 32 (i 1).val) 0#32)) 0#32) = 1#1

/-- The eight points of the first phase. -/
abbrev AtPhaseA (i : grid0.Coords) : Prop := k0_cond5 i = 1#1

/-- The first point of the second phase: the branch that inverts the Cholesky factor. -/
abbrev AtInvert (i : grid0.Coords) : Prop := (Scalar.cmpi .ne (Scalar.extui (Scalar.andi (Scalar.cmpi .eq (BitVec.ofNat 32 (i 0).val) 1#32) (Scalar.cmpi .eq (BitVec.ofNat 32 (i 1).val) 0#32))) 0#32) = 1#1

/-- The four points that store result blocks. -/
abbrev AtPhaseB (i : grid0.Coords) : Prop := k0_cond7 i = 1#1

theorem atFirst_iff : ∀ t : Fin cfg0.N, AtFirst (grid0.coords t) ↔ t.val = 0 :=
  (by decide +kernel : ∀ t : Fin grid0.N, AtFirst (grid0.coords t) ↔ t.val = 0)

theorem atHalf_iff : ∀ t : Fin cfg0.N, AtHalf (grid0.coords t) ↔ (t.val = 0 ∨ t.val = 4) :=
  (by decide +kernel : ∀ t : Fin grid0.N, AtHalf (grid0.coords t) ↔ (t.val = 0 ∨ t.val = 4))

theorem atZero_iff : ∀ t : Fin cfg0.N, AtZero (grid0.coords t) ↔ (t.val = 0 ∨ t.val = 8) :=
  (by decide +kernel : ∀ t : Fin grid0.N, AtZero (grid0.coords t) ↔ (t.val = 0 ∨ t.val = 8))

theorem atLater_iff : ∀ t : Fin cfg0.N, AtLater (grid0.coords t) ↔ (t.val ≠ 0 ∧ t.val ≠ 8) :=
  (by decide +kernel : ∀ t : Fin grid0.N, AtLater (grid0.coords t) ↔ (t.val ≠ 0 ∧ t.val ≠ 8))

theorem atPhaseA_iff : ∀ t : Fin cfg0.N, AtPhaseA (grid0.coords t) ↔ t.val < 8 :=
  (by decide +kernel : ∀ t : Fin grid0.N, AtPhaseA (grid0.coords t) ↔ t.val < 8)

theorem atInvert_iff : ∀ t : Fin cfg0.N, AtInvert (grid0.coords t) ↔ t.val = 8 :=
  (by decide +kernel : ∀ t : Fin grid0.N, AtInvert (grid0.coords t) ↔ t.val = 8)

theorem atPhaseB_iff : ∀ t : Fin cfg0.N, AtPhaseB (grid0.coords t) ↔ (8 ≤ t.val ∧ t.val < 12) :=
  (by decide +kernel : ∀ t : Fin grid0.N, AtPhaseB (grid0.coords t) ↔ (8 ≤ t.val ∧ t.val < 12))

end Cert.KernelIdeal.Hand

end
-- ==== Proof.RunTile.lean ====
/- The body at a point of the first phase that runs no half of the perceptron: it stores a block of rows of the adjacency
   matrix and the same rows of `y`, and nothing else. -/
module

public import proofs.«01_k».proof.Proof.Setting

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

variable (c : Dev nD) (i : grid0.Coords)
  (arg2 : Memref sig .tc .vmem S4096x128 .f32) (harg2 : arg2.IsWhole) (arg3 : Memref sig .tc .vmem S512x4096 .f32) (harg3 : arg3.IsWhole)
  (arg4 : Memref sig .tc .vmem S128x1024 .f32) (harg4 : arg4.IsWhole) (arg5 : Memref sig .tc .vmem S1x1024 .f32) (harg5 : arg5.IsWhole)
  (arg6 : Memref sig .tc .vmem S1024x512 .f32) (harg6 : arg6.IsWhole) (arg7 : Memref sig .tc .vmem S1x512 .f32) (harg7 : arg7.IsWhole)
  (arg8 : Memref sig .tc .vmem S512x64 .f32) (harg8 : arg8.IsWhole) (arg9 : Memref sig .tc .vmem S1x64 .f32) (harg9 : arg9.IsWhole)
  (arg10 : Memref sig .tc .vmem S64x10 .f32) (harg10 : arg10.IsWhole) (arg11 : Memref sig .tc .vmem S1x10 .f32) (harg11 : arg11.IsWhole)
  (arg12 : Memref sig .tc .vmem S128x64 .f32) (harg12 : arg12.IsWhole) (arg13 : Memref sig .tc .vmem S64x10 .f32) (harg13 : arg13.IsWhole)
  (arg14 : Memref sig .tc .vmem S1024x10 .f32) (harg14 : arg14.IsWhole) (arg15 : Memref sig .tc .vmem S1024x10 .f32) (harg15 : arg15.IsWhole)
  (arg16 : Memref sig .tc .vmem S4096x64 .bf16) (harg16 : arg16.IsWhole) (arg17 : Memref sig .tc .vmem S4096x4096 .bf16) (harg17 : arg17.IsWhole)
  (arg18 : Memref sig .tc .vmem S4096x10 .bf16) (harg18 : arg18.IsWhole) (arg19 : Memref sig .tc .vmem S4096x10 .bf16) (harg19 : arg19.IsWhole)
  (arg20 : Memref sig .tc .vmem S10x10 .f32) (harg20 : arg20.IsWhole) (arg21 : Memref sig .tc .vmem S10x10 .f32) (harg21 : arg21.IsWhole)

/-- The scratch of adjacency rows after a first-phase point: the point's block put in its rows. -/
def abStep (i : grid0.Coords) (x1 : Vec F S512x4096 .f32) (s1 : Vec F S4096x4096 .bf16) : Vec F S4096x4096 .bf16 :=
  VecWindow.put s1 (k0_off3 i) S512x4096.size (k0_pay61 x1)

/-- The scratch of rows of `y` after a first-phase point. -/
def yStep (i : grid0.Coords) (x1 : Vec F S512x4096 .f32) (s0 : Vec F S4096x64 .bf16) (x11 : Vec F S64x10 .f32) (s3 : Vec F S4096x10 .bf16) :
    Vec F S4096x10 .bf16 :=
  VecWindow.put s3 (k0_off4 i) S512x10.size (k0_pay62 x1 s0 x11)

set_option maxHeartbeats 1000000 in
/-- The body stores the block and the rows of `y`; the buffers it reads are as they were. -/
theorem run_tile
    (hc0 : ¬AtFirst i) (hc1 : ¬AtHalf i) (hc4 : AtPhaseA i) (hc5 : ¬AtInvert i) (hc6 : ¬AtPhaseB i)
    (x1 : Vec F S512x4096 .f32) (x11 : Vec F S64x10 .f32) (s0 : Vec F S4096x64 .bf16) (s1 : Vec F S4096x4096 .bf16) (s3 : Vec F S4096x10 .bf16) (E : Set ℕ) (K : PUnit → sProp 𝕄) :
    iprop(owns (c : Thread nD τ) arg3 fullShare x1 ∗ owns (c : Thread nD τ) arg13 fullShare x11 ∗ owns (c : Thread nD τ) arg16 fullShare s0 ∗ owns (c : Thread nD τ) arg17 fullShare s1 ∗ owns (c : Thread nD τ) arg19 fullShare s3
        ∗ (iprop(owns (c : Thread nD τ) arg3 fullShare x1 ∗ owns (c : Thread nD τ) arg13 fullShare x11 ∗ owns (c : Thread nD τ) arg16 fullShare s0 ∗ owns (c : Thread nD τ) arg17 fullShare (abStep i x1 s1) ∗ owns (c : Thread nD τ) arg19 fullShare (yStep i x1 s0 x11 s3)) -∗ K ⟨⟩))
      ⊢ wp frame (wpE (defs₀ (F := F)) Variants.none c none) E
        (cc0__fused_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc0__fused_kernel_eq_skeleton]; unfold cc0__fused_kernel_skel
  simp only [k0_part11_eq_skeleton]
  unfold owns
  iintro ⟨⟨%f3, %hf3, H3⟩, ⟨%f13, %hf13, H13⟩, ⟨%f16, %hf16, H16⟩, ⟨%f17, %hf17, H17⟩, ⟨%f19, %hf19, H19⟩, Hk⟩
  obtain rfl := harg3.eq_unread hf3; obtain rfl := harg13.eq_unread hf13; obtain rfl := harg16.eq_unread hf16; obtain rfl := harg17.eq_unread hf17
  obtain rfl := harg19.eq_unread hf19
  sl_exec (disch := first | sl_exact hc0 | sl_exact hc1 | sl_exact hc4 | sl_exact hc5 | sl_exact hc6)
  sl_step
  iapply Hk
  isplitl [H3]
  · iexists _; isplitr; · ipureintro; exact hf3
    iexact H3
  isplitl [H13]
  · iexists _; isplitr; · ipureintro; exact hf13
    iexact H13
  isplitl [H16]
  · iexists _; isplitr; · ipureintro; exact hf16
    iexact H16
  isplitl [H17]
  · iexists _; isplitr; swap; · iexact H17
    ipureintro
    rw [View.read_writes_cons_put _ _ _ _ _ rfl, View.writes_nil]
    repeat rw [View.readAt_full]
    repeat rw [View.readCov_full]
    repeat rw [View.readAt_unit _ _ _ rfl]
    repeat rw [Memref.IsWhole.read_unread]
    try rfl
  iexists _; isplitr; swap; · iexact H19
  ipureintro
  rw [View.read_writes_cons_put _ _ _ _ _ rfl, View.writes_nil]
  repeat rw [View.readAt_full]
  repeat rw [View.readCov_full]
  repeat rw [View.readAt_unit _ _ _ rfl]
  repeat rw [Memref.IsWhole.read_unread]
  try rfl

end Cert.KernelIdeal.Hand

end
-- ==== Proof.RunHalf.lean ====
/- The body at the point that runs the second half of the perceptron: it also stores that half of `h` and adds the half's part
   to the Gram matrix. -/
module

public import proofs.«01_k».proof.Proof.RunTile

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

variable (c : Dev nD) (i : grid0.Coords)
  (arg2 : Memref sig .tc .vmem S4096x128 .f32) (harg2 : arg2.IsWhole) (arg3 : Memref sig .tc .vmem S512x4096 .f32) (harg3 : arg3.IsWhole)
  (arg4 : Memref sig .tc .vmem S128x1024 .f32) (harg4 : arg4.IsWhole) (arg5 : Memref sig .tc .vmem S1x1024 .f32) (harg5 : arg5.IsWhole)
  (arg6 : Memref sig .tc .vmem S1024x512 .f32) (harg6 : arg6.IsWhole) (arg7 : Memref sig .tc .vmem S1x512 .f32) (harg7 : arg7.IsWhole)
  (arg8 : Memref sig .tc .vmem S512x64 .f32) (harg8 : arg8.IsWhole) (arg9 : Memref sig .tc .vmem S1x64 .f32) (harg9 : arg9.IsWhole)
  (arg10 : Memref sig .tc .vmem S64x10 .f32) (harg10 : arg10.IsWhole) (arg11 : Memref sig .tc .vmem S1x10 .f32) (harg11 : arg11.IsWhole)
  (arg12 : Memref sig .tc .vmem S128x64 .f32) (harg12 : arg12.IsWhole) (arg13 : Memref sig .tc .vmem S64x10 .f32) (harg13 : arg13.IsWhole)
  (arg14 : Memref sig .tc .vmem S1024x10 .f32) (harg14 : arg14.IsWhole) (arg15 : Memref sig .tc .vmem S1024x10 .f32) (harg15 : arg15.IsWhole)
  (arg16 : Memref sig .tc .vmem S4096x64 .bf16) (harg16 : arg16.IsWhole) (arg17 : Memref sig .tc .vmem S4096x4096 .bf16) (harg17 : arg17.IsWhole)
  (arg18 : Memref sig .tc .vmem S4096x10 .bf16) (harg18 : arg18.IsWhole) (arg19 : Memref sig .tc .vmem S4096x10 .bf16) (harg19 : arg19.IsWhole)
  (arg20 : Memref sig .tc .vmem S10x10 .f32) (harg20 : arg20.IsWhole) (arg21 : Memref sig .tc .vmem S10x10 .f32) (harg21 : arg21.IsWhole)

/-- The perceptron up to its last rectified layer, on the half of the rows the point is for. -/
def mlp3 (i : grid0.Coords) (hc1 : AtHalf i) (x0 : Vec F S4096x128 .f32) (x2 : Vec F S128x1024 .f32) (x3 : Vec F S1x1024 .f32) (x4 : Vec F S1024x512 .f32)
    (x5 : Vec F S1x512 .f32) (x6 : Vec F S512x64 .f32) (x7 : Vec F S1x64 .f32) : FVec F S2048x64 .bf16 :=
  k0_pay1 (VecWindow.window x0 (k0_off1 i) S2048x128.size (k0_off1_inb i hc1)) x2 x3 x4 x5 x6 x7

/-- The scratch of rows of `h` after such a point: the half's rows put in their place. -/
def hStep (i : grid0.Coords) (v : FVec F S2048x64 .bf16) (x8 : Vec F S64x10 .f32) (x9 : Vec F S1x10 .f32) (s2 : Vec F S4096x10 .bf16) : Vec F S4096x10 .bf16 :=
  VecWindow.put s2 (k0_off2 i) S2048x10.size (k0_pay56 v (k0_pay2 x8) x9)

set_option maxHeartbeats 1000000 in
/-- The body stores the second half of `h`, the new Gram matrix, the adjacency block and the rows of `y`. -/
theorem run_half
    (hc0 : ¬AtFirst i) (hc1 : AtHalf i) (hc2 : ¬AtZero i) (hc3 : AtLater i) (hc4 : AtPhaseA i) (hc5 : ¬AtInvert i) (hc6 : ¬AtPhaseB i)
    (x0 : Vec F S4096x128 .f32) (x1 : Vec F S512x4096 .f32) (x2 : Vec F S128x1024 .f32) (x3 : Vec F S1x1024 .f32) (x4 : Vec F S1024x512 .f32) (x5 : Vec F S1x512 .f32) (x6 : Vec F S512x64 .f32) (x7 : Vec F S1x64 .f32) (x8 : Vec F S64x10 .f32) (x9 : Vec F S1x10 .f32) (x11 : Vec F S64x10 .f32) (s0 : Vec F S4096x64 .bf16) (s1 : Vec F S4096x4096 .bf16) (s2 : Vec F S4096x10 .bf16) (s3 : Vec F S4096x10 .bf16) (s4 : Vec F S10x10 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg13 fullShare x11 ∗ owns (c : Thread nD τ) arg16 fullShare s0 ∗ owns (c : Thread nD τ) arg17 fullShare s1 ∗ owns (c : Thread nD τ) arg18 fullShare s2 ∗ owns (c : Thread nD τ) arg19 fullShare s3 ∗ owns (c : Thread nD τ) arg20 fullShare s4
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg13 fullShare x11 ∗ owns (c : Thread nD τ) arg16 fullShare s0 ∗ owns (c : Thread nD τ) arg17 fullShare (abStep i x1 s1) ∗ owns (c : Thread nD τ) arg18 fullShare (hStep i (mlp3 i hc1 x0 x2 x3 x4 x5 x6 x7) x8 x9 s2) ∗ owns (c : Thread nD τ) arg19 fullShare (yStep i x1 s0 x11 s3) ∗ owns (c : Thread nD τ) arg20 fullShare (k0_pay59 (mlp3 i hc1 x0 x2 x3 x4 x5 x6 x7) (k0_pay2 x8) x9 s4)) -∗ K ⟨⟩))
      ⊢ wp frame (wpE (defs₀ (F := F)) Variants.none c none) E
        (cc0__fused_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc0__fused_kernel_eq_skeleton]; unfold cc0__fused_kernel_skel
  simp only [k0_part11_eq_skeleton, k0_part1_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f13, %hf13, H13⟩, ⟨%f16, %hf16, H16⟩, ⟨%f17, %hf17, H17⟩, ⟨%f18, %hf18, H18⟩, ⟨%f19, %hf19, H19⟩, ⟨%f20, %hf20, H20⟩, Hk⟩
  obtain rfl := harg2.eq_unread hf2; obtain rfl := harg3.eq_unread hf3; obtain rfl := harg4.eq_unread hf4; obtain rfl := harg5.eq_unread hf5
  obtain rfl := harg6.eq_unread hf6; obtain rfl := harg7.eq_unread hf7; obtain rfl := harg8.eq_unread hf8; obtain rfl := harg9.eq_unread hf9
  obtain rfl := harg10.eq_unread hf10; obtain rfl := harg11.eq_unread hf11; obtain rfl := harg13.eq_unread hf13; obtain rfl := harg16.eq_unread hf16
  obtain rfl := harg17.eq_unread hf17; obtain rfl := harg18.eq_unread hf18; obtain rfl := harg19.eq_unread hf19; obtain rfl := harg20.eq_unread hf20
  sl_exec (disch := first | sl_exact hc0 | sl_exact hc1 | sl_exact hc2 | sl_exact hc3 | sl_exact hc4 | sl_exact hc5 | sl_exact hc6)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [H8]
  · iexists _; isplitr; · ipureintro; exact hf8
    iexact H8
  isplitl [H9]
  · iexists _; isplitr; · ipureintro; exact hf9
    iexact H9
  isplitl [H10]
  · iexists _; isplitr; · ipureintro; exact hf10
    iexact H10
  isplitl [H11]
  · iexists _; isplitr; · ipureintro; exact hf11
    iexact H11
  isplitl [H13]
  · iexists _; isplitr; · ipureintro; exact hf13
    iexact H13
  isplitl [H16]
  · iexists _; isplitr; · ipureintro; exact hf16
    iexact H16
  isplitl [H17]
  · iexists _; isplitr; swap; · iexact H17
    ipureintro
    rw [View.read_writes_cons_put _ _ _ _ _ rfl, View.writes_nil]
    repeat rw [View.readAt_full]
    repeat rw [View.readCov_full]
    repeat rw [View.readAt_unit _ _ _ rfl]
    repeat rw [Memref.IsWhole.read_unread]
    try rfl
  isplitl [H18]
  · iexists _; isplitr; swap; · iexact H18
    ipureintro
    unfold run_half.sl.r run_half.sl.r_1
    rw [View.read_writes_cons_put _ _ _ _ _ rfl, View.writes_nil]
    repeat rw [View.readAt_full]
    repeat rw [View.readCov_full]
    repeat rw [View.readAt_unit _ _ _ rfl]
    repeat rw [Memref.IsWhole.read_unread]
    try rfl
  isplitl [H19]
  · iexists _; isplitr; swap; · iexact H19
    ipureintro
    rw [View.read_writes_cons_put _ _ _ _ _ rfl, View.writes_nil]
    repeat rw [View.readAt_full]
    repeat rw [View.readCov_full]
    repeat rw [View.readAt_unit _ _ _ rfl]
    repeat rw [Memref.IsWhole.read_unread]
    try rfl
  iexists _; isplitr; swap; · iexact H20
  ipureintro
  unfold run_half.sl.r run_half.sl.r_1
  rw [View.read_writes_full]
  repeat rw [View.readAt_full]
  repeat rw [View.readCov_full]
  repeat rw [View.readAt_unit _ _ _ rfl]
  repeat rw [Memref.IsWhole.read_unread]
  try rfl

end Cert.KernelIdeal.Hand

end
-- ==== Proof.RunFirst.lean ====
/- The body at the first grid point: it stores `x1`, the first half of `h`, that half's Gram matrix, the first adjacency
   block and the first rows of `y`. -/
module

public import proofs.«01_k».proof.Proof.RunHalf

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

variable (c : Dev nD) (i : grid0.Coords)
  (arg2 : Memref sig .tc .vmem S4096x128 .f32) (harg2 : arg2.IsWhole) (arg3 : Memref sig .tc .vmem S512x4096 .f32) (harg3 : arg3.IsWhole)
  (arg4 : Memref sig .tc .vmem S128x1024 .f32) (harg4 : arg4.IsWhole) (arg5 : Memref sig .tc .vmem S1x1024 .f32) (harg5 : arg5.IsWhole)
  (arg6 : Memref sig .tc .vmem S1024x512 .f32) (harg6 : arg6.IsWhole) (arg7 : Memref sig .tc .vmem S1x512 .f32) (harg7 : arg7.IsWhole)
  (arg8 : Memref sig .tc .vmem S512x64 .f32) (harg8 : arg8.IsWhole) (arg9 : Memref sig .tc .vmem S1x64 .f32) (harg9 : arg9.IsWhole)
  (arg10 : Memref sig .tc .vmem S64x10 .f32) (harg10 : arg10.IsWhole) (arg11 : Memref sig .tc .vmem S1x10 .f32) (harg11 : arg11.IsWhole)
  (arg12 : Memref sig .tc .vmem S128x64 .f32) (harg12 : arg12.IsWhole) (arg13 : Memref sig .tc .vmem S64x10 .f32) (harg13 : arg13.IsWhole)
  (arg14 : Memref sig .tc .vmem S1024x10 .f32) (harg14 : arg14.IsWhole) (arg15 : Memref sig .tc .vmem S1024x10 .f32) (harg15 : arg15.IsWhole)
  (arg16 : Memref sig .tc .vmem S4096x64 .bf16) (harg16 : arg16.IsWhole) (arg17 : Memref sig .tc .vmem S4096x4096 .bf16) (harg17 : arg17.IsWhole)
  (arg18 : Memref sig .tc .vmem S4096x10 .bf16) (harg18 : arg18.IsWhole) (arg19 : Memref sig .tc .vmem S4096x10 .bf16) (harg19 : arg19.IsWhole)
  (arg20 : Memref sig .tc .vmem S10x10 .f32) (harg20 : arg20.IsWhole) (arg21 : Memref sig .tc .vmem S10x10 .f32) (harg21 : arg21.IsWhole)

set_option maxHeartbeats 1000000 in
/-- The body stores `x1`, the first half of `h`, its Gram matrix, the adjacency block and the rows of `y`. -/
theorem run_first
    (hc0 : AtFirst i) (hc1 : AtHalf i) (hc2 : AtZero i) (hc3 : ¬AtLater i) (hc4 : AtPhaseA i) (hc5 : ¬AtInvert i) (hc6 : ¬AtPhaseB i)
    (x0 : Vec F S4096x128 .f32) (x1 : Vec F S512x4096 .f32) (x2 : Vec F S128x1024 .f32) (x3 : Vec F S1x1024 .f32) (x4 : Vec F S1024x512 .f32) (x5 : Vec F S1x512 .f32) (x6 : Vec F S512x64 .f32) (x7 : Vec F S1x64 .f32) (x8 : Vec F S64x10 .f32) (x9 : Vec F S1x10 .f32) (x10 : Vec F S128x64 .f32) (x11 : Vec F S64x10 .f32) (s0 : Vec F S4096x64 .bf16) (s1 : Vec F S4096x4096 .bf16) (s2 : Vec F S4096x10 .bf16) (s3 : Vec F S4096x10 .bf16) (s4 : Vec F S10x10 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg16 fullShare s0 ∗ owns (c : Thread nD τ) arg17 fullShare s1 ∗ owns (c : Thread nD τ) arg18 fullShare s2 ∗ owns (c : Thread nD τ) arg19 fullShare s3 ∗ owns (c : Thread nD τ) arg20 fullShare s4
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg16 fullShare (k0_pay54 x0 x10) ∗ owns (c : Thread nD τ) arg17 fullShare (abStep i x1 s1) ∗ owns (c : Thread nD τ) arg18 fullShare (hStep i (mlp3 i hc1 x0 x2 x3 x4 x5 x6 x7) x8 x9 s2) ∗ owns (c : Thread nD τ) arg19 fullShare (yStep i x1 (k0_pay54 x0 x10) x11 s3) ∗ owns (c : Thread nD τ) arg20 fullShare (k0_pay58 (mlp3 i hc1 x0 x2 x3 x4 x5 x6 x7) (k0_pay2 x8) x9)) -∗ K ⟨⟩))
      ⊢ wp frame (wpE (defs₀ (F := F)) Variants.none c none) E
        (cc0__fused_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc0__fused_kernel_eq_skeleton]; unfold cc0__fused_kernel_skel
  simp only [k0_part11_eq_skeleton, k0_part1_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f16, %hf16, H16⟩, ⟨%f17, %hf17, H17⟩, ⟨%f18, %hf18, H18⟩, ⟨%f19, %hf19, H19⟩, ⟨%f20, %hf20, H20⟩, Hk⟩
  obtain rfl := harg2.eq_unread hf2; obtain rfl := harg3.eq_unread hf3; obtain rfl := harg4.eq_unread hf4; obtain rfl := harg5.eq_unread hf5
  obtain rfl := harg6.eq_unread hf6; obtain rfl := harg7.eq_unread hf7; obtain rfl := harg8.eq_unread hf8; obtain rfl := harg9.eq_unread hf9
  obtain rfl := harg10.eq_unread hf10; obtain rfl := harg11.eq_unread hf11; obtain rfl := harg12.eq_unread hf12; obtain rfl := harg13.eq_unread hf13
  obtain rfl := harg16.eq_unread hf16; obtain rfl := harg17.eq_unread hf17; obtain rfl := harg18.eq_unread hf18; obtain rfl := harg19.eq_unread hf19
  obtain rfl := harg20.eq_unread hf20
  sl_exec (disch := first | sl_exact hc0 | sl_exact hc1 | sl_exact hc2 | sl_exact hc3 | sl_exact hc4 | sl_exact hc5 | sl_exact hc6)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [H8]
  · iexists _; isplitr; · ipureintro; exact hf8
    iexact H8
  isplitl [H9]
  · iexists _; isplitr; · ipureintro; exact hf9
    iexact H9
  isplitl [H10]
  · iexists _; isplitr; · ipureintro; exact hf10
    iexact H10
  isplitl [H11]
  · iexists _; isplitr; · ipureintro; exact hf11
    iexact H11
  isplitl [H12]
  · iexists _; isplitr; · ipureintro; exact hf12
    iexact H12
  isplitl [H13]
  · iexists _; isplitr; · ipureintro; exact hf13
    iexact H13
  isplitl [H16]
  · iexists _; isplitr; swap; · iexact H16
    ipureintro
    unfold run_first.sl.H16_1
    rw [View.read_writes_full]
    repeat rw [View.readAt_full]
    repeat rw [View.readCov_full]
    repeat rw [View.readAt_unit _ _ _ rfl]
    repeat rw [Memref.IsWhole.read_unread]
    try rfl
  isplitl [H17]
  · iexists _; isplitr; swap; · iexact H17
    ipureintro
    rw [View.read_writes_cons_put _ _ _ _ _ rfl, View.writes_nil]
    repeat rw [View.readAt_full]
    repeat rw [View.readCov_full]
    repeat rw [View.readAt_unit _ _ _ rfl]
    repeat rw [Memref.IsWhole.read_unread]
    try rfl
  isplitl [H18]
  · iexists _; isplitr; swap; · iexact H18
    ipureintro
    unfold run_first.sl.r run_first.sl.r_1
    rw [View.read_writes_cons_put _ _ _ _ _ rfl, View.writes_nil]
    repeat rw [View.readAt_full]
    repeat rw [View.readCov_full]
    repeat rw [View.readAt_unit _ _ _ rfl]
    repeat rw [Memref.IsWhole.read_unread]
    try rfl
  isplitl [H19]
  · iexists _; isplitr; swap; · iexact H19
    ipureintro
    unfold run_first.sl.v40 run_first.sl.H16_1
    rw [View.read_writes_cons_put _ _ _ _ _ rfl, View.writes_nil]
    repeat rw [View.readAt_full]
    repeat rw [View.readCov_full]
    repeat rw [View.readAt_unit _ _ _ rfl]
    repeat rw [Memref.IsWhole.read_unread]
    try rfl
  iexists _; isplitr; swap; · iexact H20
  ipureintro
  unfold run_first.sl.r run_first.sl.r_1
  rw [View.read_writes_full]
  repeat rw [View.readAt_full]
  repeat rw [View.readCov_full]
  repeat rw [View.readAt_unit _ _ _ rfl]
  repeat rw [Memref.IsWhole.read_unread]
  try rfl

end Cert.KernelIdeal.Hand

end
-- ==== Proof.RunEmit.lean ====
/- The body at a point of the second phase that stores a block of each result and inverts nothing. -/
module

public import proofs.«01_k».proof.Proof.RunFirst

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

variable (c : Dev nD) (i : grid0.Coords)
  (arg2 : Memref sig .tc .vmem S4096x128 .f32) (harg2 : arg2.IsWhole) (arg3 : Memref sig .tc .vmem S512x4096 .f32) (harg3 : arg3.IsWhole)
  (arg4 : Memref sig .tc .vmem S128x1024 .f32) (harg4 : arg4.IsWhole) (arg5 : Memref sig .tc .vmem S1x1024 .f32) (harg5 : arg5.IsWhole)
  (arg6 : Memref sig .tc .vmem S1024x512 .f32) (harg6 : arg6.IsWhole) (arg7 : Memref sig .tc .vmem S1x512 .f32) (harg7 : arg7.IsWhole)
  (arg8 : Memref sig .tc .vmem S512x64 .f32) (harg8 : arg8.IsWhole) (arg9 : Memref sig .tc .vmem S1x64 .f32) (harg9 : arg9.IsWhole)
  (arg10 : Memref sig .tc .vmem S64x10 .f32) (harg10 : arg10.IsWhole) (arg11 : Memref sig .tc .vmem S1x10 .f32) (harg11 : arg11.IsWhole)
  (arg12 : Memref sig .tc .vmem S128x64 .f32) (harg12 : arg12.IsWhole) (arg13 : Memref sig .tc .vmem S64x10 .f32) (harg13 : arg13.IsWhole)
  (arg14 : Memref sig .tc .vmem S1024x10 .f32) (harg14 : arg14.IsWhole) (arg15 : Memref sig .tc .vmem S1024x10 .f32) (harg15 : arg15.IsWhole)
  (arg16 : Memref sig .tc .vmem S4096x64 .bf16) (harg16 : arg16.IsWhole) (arg17 : Memref sig .tc .vmem S4096x4096 .bf16) (harg17 : arg17.IsWhole)
  (arg18 : Memref sig .tc .vmem S4096x10 .bf16) (harg18 : arg18.IsWhole) (arg19 : Memref sig .tc .vmem S4096x10 .bf16) (harg19 : arg19.IsWhole)
  (arg20 : Memref sig .tc .vmem S10x10 .f32) (harg20 : arg20.IsWhole) (arg21 : Memref sig .tc .vmem S10x10 .f32) (harg21 : arg21.IsWhole)

/-- The block of the first result stored at a second-phase point: 64 times the point's rows of `h`, times `s5`. -/
def orthoBlk (i : grid0.Coords) (hc6 : AtPhaseB i) (s2 : Vec F S4096x10 .bf16) (s5 : Vec F S10x10 .f32) : FVec F S1024x10 .f32 :=
  k0_pay64 (VecWindow.window s2 (k0_off5 i) S1024x10.size (k0_off5_inb i hc6)) s5

/-- The block of the second result stored there: the point's adjacency rows times `y`. -/
def gBlk (i : grid0.Coords) (hc6 : AtPhaseB i) (s1 : Vec F S4096x4096 .bf16) (s3 : Vec F S4096x10 .bf16) : FVec F S1024x10 .f32 :=
  k0_pay65 (VecWindow.window s1 (k0_off6 i) S1024x4096.size (k0_off6_inb i hc6)) s3

set_option maxHeartbeats 1000000 in
/-- The body stores a block of each result. -/
theorem run_emit
    (hc0 : ¬AtFirst i) (hc1 : ¬AtHalf i) (hc4 : ¬AtPhaseA i) (hc5 : ¬AtInvert i) (hc6 : AtPhaseB i)
    (o0 : Vec F S1024x10 .f32) (o1 : Vec F S1024x10 .f32) (s1 : Vec F S4096x4096 .bf16) (s2 : Vec F S4096x10 .bf16) (s3 : Vec F S4096x10 .bf16) (s5 : Vec F S10x10 .f32) (E : Set ℕ) (K : PUnit → sProp 𝕄) :
    iprop(owns (c : Thread nD τ) arg14 fullShare o0 ∗ owns (c : Thread nD τ) arg15 fullShare o1 ∗ owns (c : Thread nD τ) arg17 fullShare s1 ∗ owns (c : Thread nD τ) arg18 fullShare s2 ∗ owns (c : Thread nD τ) arg19 fullShare s3 ∗ owns (c : Thread nD τ) arg21 fullShare s5
        ∗ (iprop(owns (c : Thread nD τ) arg14 fullShare (orthoBlk i hc6 s2 s5) ∗ owns (c : Thread nD τ) arg15 fullShare (gBlk i hc6 s1 s3) ∗ owns (c : Thread nD τ) arg17 fullShare s1 ∗ owns (c : Thread nD τ) arg18 fullShare s2 ∗ owns (c : Thread nD τ) arg19 fullShare s3 ∗ owns (c : Thread nD τ) arg21 fullShare s5) -∗ K ⟨⟩))
      ⊢ wp frame (wpE (defs₀ (F := F)) Variants.none c none) E
        (cc0__fused_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc0__fused_kernel_eq_skeleton]; unfold cc0__fused_kernel_skel
  simp only [k0_part11_eq_skeleton]
  unfold owns
  iintro ⟨⟨%f14, %hf14, H14⟩, ⟨%f15, %hf15, H15⟩, ⟨%f17, %hf17, H17⟩, ⟨%f18, %hf18, H18⟩, ⟨%f19, %hf19, H19⟩, ⟨%f21, %hf21, H21⟩, Hk⟩
  obtain rfl := harg14.eq_unread hf14; obtain rfl := harg15.eq_unread hf15; obtain rfl := harg17.eq_unread hf17; obtain rfl := harg18.eq_unread hf18
  obtain rfl := harg19.eq_unread hf19; obtain rfl := harg21.eq_unread hf21
  sl_exec (disch := first | sl_exact hc0 | sl_exact hc1 | sl_exact hc4 | sl_exact hc5 | sl_exact hc6)
  sl_step
  iapply Hk
  isplitl [H14]
  · iexists _; isplitr; swap; · iexact H14
    ipureintro
    rw [View.read_writes_full]
    repeat rw [View.readAt_full]
    repeat rw [View.readCov_full]
    repeat rw [View.readAt_unit _ _ _ rfl]
    repeat rw [Memref.IsWhole.read_unread]
    try rfl
  isplitl [H15]
  · iexists _; isplitr; swap; · iexact H15
    ipureintro
    rw [View.read_writes_full]
    repeat rw [View.readAt_full]
    repeat rw [View.readCov_full]
    repeat rw [View.readAt_unit _ _ _ rfl]
    repeat rw [Memref.IsWhole.read_unread]
    try rfl
  isplitl [H17]
  · iexists _; isplitr; · ipureintro; exact hf17
    iexact H17
  isplitl [H18]
  · iexists _; isplitr; · ipureintro; exact hf18
    iexact H18
  isplitl [H19]
  · iexists _; isplitr; · ipureintro; exact hf19
    iexact H19
  iexists _; isplitr; · ipureintro; exact hf21
  iexact H21

end Cert.KernelIdeal.Hand

end
-- ==== Proof.RunInvert.lean ====
/- The body at the first point of the second phase: it stores the inverse Cholesky factor, transposed, then a block of each result. -/
module

public import proofs.«01_k».proof.Proof.RunEmit

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

variable (c : Dev nD) (i : grid0.Coords)
  (arg2 : Memref sig .tc .vmem S4096x128 .f32) (harg2 : arg2.IsWhole) (arg3 : Memref sig .tc .vmem S512x4096 .f32) (harg3 : arg3.IsWhole)
  (arg4 : Memref sig .tc .vmem S128x1024 .f32) (harg4 : arg4.IsWhole) (arg5 : Memref sig .tc .vmem S1x1024 .f32) (harg5 : arg5.IsWhole)
  (arg6 : Memref sig .tc .vmem S1024x512 .f32) (harg6 : arg6.IsWhole) (arg7 : Memref sig .tc .vmem S1x512 .f32) (harg7 : arg7.IsWhole)
  (arg8 : Memref sig .tc .vmem S512x64 .f32) (harg8 : arg8.IsWhole) (arg9 : Memref sig .tc .vmem S1x64 .f32) (harg9 : arg9.IsWhole)
  (arg10 : Memref sig .tc .vmem S64x10 .f32) (harg10 : arg10.IsWhole) (arg11 : Memref sig .tc .vmem S1x10 .f32) (harg11 : arg11.IsWhole)
  (arg12 : Memref sig .tc .vmem S128x64 .f32) (harg12 : arg12.IsWhole) (arg13 : Memref sig .tc .vmem S64x10 .f32) (harg13 : arg13.IsWhole)
  (arg14 : Memref sig .tc .vmem S1024x10 .f32) (harg14 : arg14.IsWhole) (arg15 : Memref sig .tc .vmem S1024x10 .f32) (harg15 : arg15.IsWhole)
  (arg16 : Memref sig .tc .vmem S4096x64 .bf16) (harg16 : arg16.IsWhole) (arg17 : Memref sig .tc .vmem S4096x4096 .bf16) (harg17 : arg17.IsWhole)
  (arg18 : Memref sig .tc .vmem S4096x10 .bf16) (harg18 : arg18.IsWhole) (arg19 : Memref sig .tc .vmem S4096x10 .bf16) (harg19 : arg19.IsWhole)
  (arg20 : Memref sig .tc .vmem S10x10 .f32) (harg20 : arg20.IsWhole) (arg21 : Memref sig .tc .vmem S10x10 .f32) (harg21 : arg21.IsWhole)

/-- What the second phase multiplies `h` by: the inverse of the Cholesky factor, transposed, as the body computes it from the Gram matrix.
    The names follow the body's values: the factor after some columns, the pivot's entry and column, the matrix left to factor. -/
def invOf (s4 : Vec F S10x10 .f32) : FVec F S10x10 .f32 :=
  let v42 : IVec S10x10 32 := iota .tc S10x10 32 [0] iota_S10x10_d0_w32
  let v43 : IVec S10x10 32 := iota .tc S10x10 32 [1] iota_S10x10_d1_w32
  let v46 : FVec F S10x10 .f32 := k0_pay4
  let v76 := k0_pay8 s4
  let v78 := k0_pay9 s4
  let v105 := k0_pay12 v43 v76 v78 k0_pay10
  let v115 := k0_pay14 v42 v43 v76 v78 k0_pay10
  let v123 := k0_pay15 v43 v76 v78 k0_pay10
  let v130 := k0_pay16 v42 v43 (k0_pay7 s4) v76 v78 k0_pay10
  let v159 := k0_pay20 v42 v43 v105 v115 v123 v130
  let v163 := k0_pay21 v42 v43 v105 v115 v123
  let v173 := k0_pay23 v42 v43 v105 v115 v123
  let v179 := k0_pay25 v42 v43 v105 v115 v123
  let v217 := k0_pay30 v42 v43 v159 v163 v173 (k0_pay24 v43) v179 k0_pay26
  let v221 := k0_pay31 v42 v43 v163 v173 (k0_pay24 v43) v179 k0_pay26
  let v223 := k0_pay32 v42 v43 v163 v173 (k0_pay24 v43) v179 k0_pay26
  let v229 := k0_pay34 v42 v43 v163 v173 (k0_pay24 v43) v179 k0_pay26
  let v275 := k0_pay40 v42 v43 v217 v221 v223 (k0_pay33 v42) v229 k0_pay35
  let v279 := k0_pay41 v42 v43 v221 v223 (k0_pay33 v42) v229 k0_pay35
  let v280 := k0_pay42 v42 v43 v221 v223 (k0_pay33 v42) v229 k0_pay35
  let v325 := k0_pay43 v42 v43 v275 v279 v280
  let v327 := k0_pay45 v42 v43 v275 v279 v280
  let v368 := k0_pay47 v42 v46 v325 k0_pay44 v327 (k0_pay46 v46)
  let v375 := k0_pay48 v42 v46 v325 k0_pay44 v327 (k0_pay46 v46)
  let zero : F .f32 := Scalar.ofBits .f32 0x00000000#32
  let v424 := k0_pay50 v42 v46 v325 v368 v375 (k0_pay49 v42) zero
  k0_pay63 (k0_pay53 v42 v46 v325 v424 (k0_pay51 v46) (k0_pay52 v42 v46 v325 v368 v375 (k0_pay49 v42) zero))

set_option maxHeartbeats 1000000 in
/-- The body stores the transposed inverse factor and a block of each result. -/
theorem run_invert
    (hc0 : ¬AtFirst i) (hc1 : ¬AtHalf i) (hc4 : ¬AtPhaseA i) (hc5 : AtInvert i) (hc6 : AtPhaseB i)
    (o0 : Vec F S1024x10 .f32) (o1 : Vec F S1024x10 .f32) (s1 : Vec F S4096x4096 .bf16) (s2 : Vec F S4096x10 .bf16) (s3 : Vec F S4096x10 .bf16) (s4 : Vec F S10x10 .f32) (s5 : Vec F S10x10 .f32) (E : Set ℕ) (K : PUnit → sProp 𝕄) :
    iprop(owns (c : Thread nD τ) arg14 fullShare o0 ∗ owns (c : Thread nD τ) arg15 fullShare o1 ∗ owns (c : Thread nD τ) arg17 fullShare s1 ∗ owns (c : Thread nD τ) arg18 fullShare s2 ∗ owns (c : Thread nD τ) arg19 fullShare s3 ∗ owns (c : Thread nD τ) arg20 fullShare s4 ∗ owns (c : Thread nD τ) arg21 fullShare s5
        ∗ (iprop(owns (c : Thread nD τ) arg14 fullShare (orthoBlk i hc6 s2 (invOf s4)) ∗ owns (c : Thread nD τ) arg15 fullShare (gBlk i hc6 s1 s3) ∗ owns (c : Thread nD τ) arg17 fullShare s1 ∗ owns (c : Thread nD τ) arg18 fullShare s2 ∗ owns (c : Thread nD τ) arg19 fullShare s3 ∗ owns (c : Thread nD τ) arg20 fullShare s4 ∗ owns (c : Thread nD τ) arg21 fullShare (invOf s4)) -∗ K ⟨⟩))
      ⊢ wp frame (wpE (defs₀ (F := F)) Variants.none c none) E
        (cc0__fused_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc0__fused_kernel_eq_skeleton]; unfold cc0__fused_kernel_skel
  simp only [k0_part11_eq_skeleton, k0_part10_eq_skeleton, k0_part2_eq_skeleton, k0_part3_eq_skeleton, k0_part4_eq_skeleton, k0_part5_eq_skeleton, k0_part6_eq_skeleton, k0_part7_eq_skeleton, k0_part8_eq_skeleton, k0_part9_eq_skeleton]
  unfold owns
  iintro ⟨⟨%f14, %hf14, H14⟩, ⟨%f15, %hf15, H15⟩, ⟨%f17, %hf17, H17⟩, ⟨%f18, %hf18, H18⟩, ⟨%f19, %hf19, H19⟩, ⟨%f20, %hf20, H20⟩, ⟨%f21, %hf21, H21⟩, Hk⟩
  obtain rfl := harg14.eq_unread hf14; obtain rfl := harg15.eq_unread hf15; obtain rfl := harg17.eq_unread hf17; obtain rfl := harg18.eq_unread hf18
  obtain rfl := harg19.eq_unread hf19; obtain rfl := harg20.eq_unread hf20; obtain rfl := harg21.eq_unread hf21
  sl_exec (disch := first | sl_exact hc0 | sl_exact hc1 | sl_exact hc4 | sl_exact hc5 | sl_exact hc6)
  sl_step
  iapply Hk
  isplitl [H14]
  · iexists _; isplitr; swap; · iexact H14
    ipureintro
    unfold run_invert.sl.v37 run_invert.sl.H21_1
    rw [View.read_writes_full]
    repeat rw [View.readAt_full]
    repeat rw [View.readCov_full]
    repeat rw [View.readAt_unit _ _ _ rfl]
    repeat rw [Memref.IsWhole.read_unread]
    sl_unfold_words
    repeat rw [View.readAt_full]
    repeat rw [Memref.IsWhole.read_unread]
    rfl
  isplitl [H15]
  · iexists _; isplitr; swap; · iexact H15
    ipureintro
    rw [View.read_writes_full]
    repeat rw [View.readAt_full]
    repeat rw [View.readCov_full]
    repeat rw [View.readAt_unit _ _ _ rfl]
    repeat rw [Memref.IsWhole.read_unread]
    try rfl
  isplitl [H17]
  · iexists _; isplitr; · ipureintro; exact hf17
    iexact H17
  isplitl [H18]
  · iexists _; isplitr; · ipureintro; exact hf18
    iexact H18
  isplitl [H19]
  · iexists _; isplitr; · ipureintro; exact hf19
    iexact H19
  isplitl [H20]
  · iexists _; isplitr; · ipureintro; exact hf20
    iexact H20
  iexists _; isplitr; swap; · iexact H21
  ipureintro
  unfold run_invert.sl.H21_1
  rw [View.read_writes_full]
  sl_unfold_words
  repeat rw [View.readAt_full]
  repeat rw [Memref.IsWhole.read_unread]
  rfl

end Cert.KernelIdeal.Hand

end
-- ==== Proof.RunRest.lean ====
/- The body at the last four points: nothing is stored. -/
module

public import proofs.«01_k».proof.Proof.RunInvert

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

variable (c : Dev nD) (i : grid0.Coords)
  (arg2 : Memref sig .tc .vmem S4096x128 .f32) (harg2 : arg2.IsWhole) (arg3 : Memref sig .tc .vmem S512x4096 .f32) (harg3 : arg3.IsWhole)
  (arg4 : Memref sig .tc .vmem S128x1024 .f32) (harg4 : arg4.IsWhole) (arg5 : Memref sig .tc .vmem S1x1024 .f32) (harg5 : arg5.IsWhole)
  (arg6 : Memref sig .tc .vmem S1024x512 .f32) (harg6 : arg6.IsWhole) (arg7 : Memref sig .tc .vmem S1x512 .f32) (harg7 : arg7.IsWhole)
  (arg8 : Memref sig .tc .vmem S512x64 .f32) (harg8 : arg8.IsWhole) (arg9 : Memref sig .tc .vmem S1x64 .f32) (harg9 : arg9.IsWhole)
  (arg10 : Memref sig .tc .vmem S64x10 .f32) (harg10 : arg10.IsWhole) (arg11 : Memref sig .tc .vmem S1x10 .f32) (harg11 : arg11.IsWhole)
  (arg12 : Memref sig .tc .vmem S128x64 .f32) (harg12 : arg12.IsWhole) (arg13 : Memref sig .tc .vmem S64x10 .f32) (harg13 : arg13.IsWhole)
  (arg14 : Memref sig .tc .vmem S1024x10 .f32) (harg14 : arg14.IsWhole) (arg15 : Memref sig .tc .vmem S1024x10 .f32) (harg15 : arg15.IsWhole)
  (arg16 : Memref sig .tc .vmem S4096x64 .bf16) (harg16 : arg16.IsWhole) (arg17 : Memref sig .tc .vmem S4096x4096 .bf16) (harg17 : arg17.IsWhole)
  (arg18 : Memref sig .tc .vmem S4096x10 .bf16) (harg18 : arg18.IsWhole) (arg19 : Memref sig .tc .vmem S4096x10 .bf16) (harg19 : arg19.IsWhole)
  (arg20 : Memref sig .tc .vmem S10x10 .f32) (harg20 : arg20.IsWhole) (arg21 : Memref sig .tc .vmem S10x10 .f32) (harg21 : arg21.IsWhole)

set_option maxHeartbeats 1000000 in
/-- The body does nothing. -/
theorem run_rest
    (hc0 : ¬AtFirst i) (hc1 : ¬AtHalf i) (hc4 : ¬AtPhaseA i) (hc5 : ¬AtInvert i) (hc6 : ¬AtPhaseB i)
     (E : Set ℕ) (K : PUnit → sProp 𝕄) :
    iprop(K ⟨⟩)
      ⊢ wp frame (wpE (defs₀ (F := F)) Variants.none c none) E
        (cc0__fused_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc0__fused_kernel_eq_skeleton]; unfold cc0__fused_kernel_skel
  simp only [k0_part11_eq_skeleton]
  iintro Hk
  sl_exec (disch := first | sl_exact hc0 | sl_exact hc1 | sl_exact hc4 | sl_exact hc5 | sl_exact hc6)
  sl_step
  iexact Hk

end Cert.KernelIdeal.Hand

end
-- ==== Proof.Rows.lean ====
/- Storing and reading whole rows of a two-dimensional buffer. -/
module

public import Idealize.ShloMosaic.Lib.VecWindow
public import Idealize.ShloMosaic.Lib.Pointwise

@[expose] public section

namespace Cert.Rows

open Idealize.ShloMosaic

variable {α : Type} {R C B : ℕ}

/-- The entry of `y`'s row within a block of `B` rows whose first row is a multiple of `B`. -/
def within (hB : 0 < B) (y : (⟨2, ![R, C]⟩ : Shape).Idx) : (⟨2, ![B, C]⟩ : Shape).Idx :=
  ix2 (⟨(y 0).val % B, Nat.mod_lt _ hB⟩ : Fin B) (y 1 : Fin C)

/-- Storing the rows of block `n`: an entry of the block becomes the stored one, any other stays. -/
theorem put_rows (x : (⟨2, ![R, C]⟩ : Shape).Idx → α) (off : Fin 2 → ℕ) (n : ℕ) (hB : 0 < B) (hoff : off = ![B * n, 0])
    (w : (⟨2, ![B, C]⟩ : Shape).Idx → α) (y : (⟨2, ![R, C]⟩ : Shape).Idx) :
    VecWindow.put (s := ⟨2, ![R, C]⟩) x off ![B, C] w y = if (y 0).val / B = n then w (within hB y) else x y := by
  subst hoff
  have h1 : (y 1).val < C := (y 1).isLt
  unfold VecWindow.put
  by_cases h : (y 0).val / B = n
  · have hlo : B * n ≤ (y 0).val := by rw [← h]; exact Nat.mul_div_le _ _
    have hhi : (y 0).val < B * n + B := by rw [← h]; exact Nat.lt_mul_div_succ _ hB
    rw [if_pos h, dif_pos (by
      intro a
      match a with
      | ⟨0, _⟩ => exact ⟨hlo, hhi⟩
      | ⟨1, _⟩ => exact ⟨Nat.zero_le _, by show (y 1).val < 0 + C; omega⟩)]
    refine congrArg w (funext fun a => Fin.ext ?_)
    match a with
    | ⟨0, _⟩ =>
      show (y 0).val - B * n = (y 0).val % B
      rw [← h]; have := Nat.div_add_mod (y 0).val B; omega
    | ⟨1, _⟩ => show (y 1).val - 0 = (y 1).val; omega
  · rw [if_neg h, dif_neg]
    intro hall
    have h0 := hall 0
    have hlo : B * n ≤ (y 0).val := h0.1
    have hhi : (y 0).val < B * n + B := h0.2
    exact h (by rw [Nat.div_eq_iff hB]; constructor <;> (try rw [Nat.mul_comm]) <;> omega)

/-- Reading the rows of block `n`. -/
theorem window_rows (x : (⟨2, ![R, C]⟩ : Shape).Idx → α) (off : Fin 2 → ℕ) (o : ℕ) (hoff : off = ![o, 0]) (inb) (r : Fin B) (k : Fin C) (hr : o + r.val < R) :
    VecWindow.window (s := ⟨2, ![R, C]⟩) x off ![B, C] inb (ix2 r k) = x (ix2 ⟨o + r.val, hr⟩ k) := by
  subst hoff
  refine congrArg x (funext fun a => Fin.ext ?_)
  match a with
  | ⟨0, _⟩ => show o + 1 * r.val = o + r.val; omega
  | ⟨1, _⟩ => show 0 + 1 * k.val = k.val; omega

/-- Two buffers that agree on the rows read give the same rows. -/
theorem window_congr (x x' : (⟨2, ![R, C]⟩ : Shape).Idx → α) (h : ∀ y, x y = x' y) (off : Fin 2 → ℕ) (inb) :
    VecWindow.window (s := ⟨2, ![R, C]⟩) x off ![B, C] inb = VecWindow.window (s := ⟨2, ![R, C]⟩) x' off ![B, C] inb := by
  rw [funext h]

end Cert.Rows
-- ==== Proof.Contents.lean ====
/- What the scratch buffers and the result blocks hold, as functions of the arrays the launch reads, and the facts about the scratch buffers
   that stand before each grid point. Every statement is for any float values. -/
module

public import proofs.«01_k».proof.Proof.RunRest
public import proofs.«01_k».proof.Proof.Rows

@[expose] public section

set_option maxRecDepth 16384

noncomputable section

namespace Cert.KernelIdeal.Hand

open Idealize.ShloMosaic Idealize.ShloMosaic.TcCoe Cert.KernelIdeal.Gen Cert.Rows

variable {F : FTy → Type} [FloatOps F]

variable (m : (ℓ : Loc nD τ sig) → Buf (Elt F) ℓ) (c : Dev nD)

/-- Grid point number `k`, the last one if there are not so many. -/
def pt (k : ℕ) : Fin cfg0.N := ⟨min k 15, by have : cfg0.N = 16 := N_0; omega⟩

theorem pt_val (t : Fin cfg0.N) : pt t.val = t := by
  have : cfg0.N = 16 := N_0
  exact Fin.ext (by show min t.val 15 = t.val; have := t.isLt; omega)

/-- The point that computes the half `k` of the perceptron's rows. -/
def halfPt (k : ℕ) : Fin cfg0.N := pt (4 * min k 1)

theorem halfPt_half (k : ℕ) : AtHalf (grid0.coords (halfPt k)) :=
  (atHalf_iff _).2 (by show min (4 * min k 1) 15 = 0 ∨ min (4 * min k 1) 15 = 4; omega)

/-- The point that stores the block a result window is at, at point `t`. -/
def emitPt (t : ℕ) : Fin cfg0.N := pt (min (max t 8) 11)

theorem emitPt_val (t : ℕ) : (emitPt t).val = min (max t 8) 11 := by show min (min (max t 8) 11) 15 = _; omega

theorem emitPt_phaseB (t : ℕ) : AtPhaseB (grid0.coords (emitPt t)) := (atPhaseB_iff _).2 (by rw [emitPt_val]; omega)

theorem emitPt_eq (t : Fin cfg0.N) (h : AtPhaseB (grid0.coords t)) : emitPt t.val = t := by
  have := (atPhaseB_iff t).1 h
  exact Fin.ext (by rw [emitPt_val]; omega)

/-! ## What is held -/

/-- The product the first point computes. -/
def x1A : Vec F S4096x64 .bf16 := k0_pay54 (iblk m c 0 (pt 0)) (iblk m c 10 (pt 0))

/-- The adjacency matrix, row block by row block. -/
def abA : Vec F S4096x4096 .bf16 := fun y => k0_pay61 (iblk m c 1 (pt ((y 0).val / 512))) (within (B := 512) (by decide) y)

/-- The rows of `y`, row block by row block. -/
def yA : Vec F S4096x10 .bf16 := fun y =>
  k0_pay62 (iblk m c 1 (pt ((y 0).val / 512))) (x1A m c) (iblk m c 11 (pt ((y 0).val / 512))) (within (B := 512) (by decide) y)

/-- The perceptron before its last layer, on the half of the rows that point `t` takes. -/
def mlpA (t : Fin cfg0.N) (h : AtHalf (grid0.coords t)) : FVec F S2048x64 .bf16 :=
  mlp3 (grid0.coords t) h (iblk m c 0 t) (iblk m c 2 t) (iblk m c 3 t) (iblk m c 4 t) (iblk m c 5 t) (iblk m c 6 t) (iblk m c 7 t)

/-- The perceptron's output, half by half. -/
def hA : Vec F S4096x10 .bf16 := fun y =>
  k0_pay56 (mlpA m c (halfPt ((y 0).val / 2048)) (halfPt_half _)) (k0_pay2 (iblk m c 8 (halfPt ((y 0).val / 2048)))) (iblk m c 9 (halfPt ((y 0).val / 2048)))
    (within (B := 2048) (by decide) y)

/-- The Gram matrix of the first half. -/
def g1A : Vec F S10x10 .f32 := k0_pay58 (mlpA m c (halfPt 0) (halfPt_half 0)) (k0_pay2 (iblk m c 8 (halfPt 0))) (iblk m c 9 (halfPt 0))

/-- The Gram matrix of both halves. -/
def g2A : Vec F S10x10 .f32 := k0_pay59 (mlpA m c (halfPt 1) (halfPt_half 1)) (k0_pay2 (iblk m c 8 (halfPt 1))) (iblk m c 9 (halfPt 1)) (g1A m c)

/-- The block of the first result in the window at point `t`. -/
def orthoA (t : ℕ) : Vec F S1024x10 .f32 := orthoBlk (grid0.coords (emitPt t)) (emitPt_phaseB t) (hA m c) (invOf (g2A m c))

/-- The block of the second result in the window at point `t`. -/
def gA (t : ℕ) : Vec F S1024x10 .f32 := gBlk (grid0.coords (emitPt t)) (emitPt_phaseB t) (abA m c) (yA m c)

/-! ## The facts before point `n` -/

/-- What the six scratch buffers hold before point `n`. -/
structure Inv (n : ℕ) (s0 : Vec F S4096x64 .bf16) (s1 : Vec F S4096x4096 .bf16) (s2 s3 : Vec F S4096x10 .bf16) (s4 s5 : Vec F S10x10 .f32) : Prop where
  x1 : 1 ≤ n → s0 = x1A m c
  ab : ∀ y : S4096x4096.Idx, (y 0).val / 512 < n → s1 y = abA m c y
  h : ∀ y : S4096x10.Idx, (1 ≤ n ∧ (y 0).val / 2048 = 0) ∨ 5 ≤ n → s2 y = hA m c y
  y : ∀ y : S4096x10.Idx, (y 0).val / 512 < n → s3 y = yA m c y
  g1 : 1 ≤ n → n ≤ 4 → s4 = g1A m c
  g2 : 5 ≤ n → s4 = g2A m c
  inv : 9 ≤ n → s5 = invOf (g2A m c)

/-- Nothing is asked before the first point. -/
theorem Inv.zero (s0 : Vec F S4096x64 .bf16) (s1 : Vec F S4096x4096 .bf16) (s2 s3 : Vec F S4096x10 .bf16) (s4 s5 : Vec F S10x10 .f32) :
    Inv m c 0 s0 s1 s2 s3 s4 s5 where
  x1 h := absurd h (by omega)
  ab y h := absurd h (by omega)
  h y h := absurd h (by omega)
  y y h := absurd h (by omega)
  g1 h := absurd h (by omega)
  g2 h := absurd h (by omega)
  inv h := absurd h (by omega)

/-! ## One point's step -/

theorem off3_eq : ∀ t : Fin cfg0.N, t.val < 8 → k0_off3 (grid0.coords t) = ![512 * t.val, 0] :=
  (by decide +kernel : ∀ t : Fin grid0.N, t.val < 8 → k0_off3 (grid0.coords t) = ![512 * t.val, 0])

theorem off4_eq : ∀ t : Fin cfg0.N, t.val < 8 → k0_off4 (grid0.coords t) = ![512 * t.val, 0] :=
  (by decide +kernel : ∀ t : Fin grid0.N, t.val < 8 → k0_off4 (grid0.coords t) = ![512 * t.val, 0])

theorem off1_eq : ∀ t : Fin cfg0.N, t.val = 0 ∨ t.val = 4 → k0_off1 (grid0.coords t) = ![2048 * (t.val / 4), 0] :=
  (by decide +kernel : ∀ t : Fin grid0.N, t.val = 0 ∨ t.val = 4 → k0_off1 (grid0.coords t) = ![2048 * (t.val / 4), 0])

theorem off2_eq : ∀ t : Fin cfg0.N, t.val = 0 ∨ t.val = 4 → k0_off2 (grid0.coords t) = ![2048 * (t.val / 4), 0] :=
  (by decide +kernel : ∀ t : Fin grid0.N, t.val = 0 ∨ t.val = 4 → k0_off2 (grid0.coords t) = ![2048 * (t.val / 4), 0])

variable {m c}

/-- The point's adjacency block put in place. -/
theorem abStep_eq {s1 : Vec F S4096x4096 .bf16} (t : Fin cfg0.N) (ht : t.val < 8) (y : S4096x4096.Idx) :
    abStep (grid0.coords t) (iblk m c 1 t) s1 y = if (y 0).val / 512 = t.val then abA m c y else s1 y := by
  unfold abStep
  refine (put_rows (B := 512) s1 _ t.val (by decide) (off3_eq t ht) _ y).trans ?_
  by_cases h : (y 0).val / 512 = t.val
  · rw [if_pos h, if_pos h]; unfold abA; rw [h, pt_val]
  · rw [if_neg h, if_neg h]

/-- The point's rows of `y` put in place. -/
theorem yStep_eq {s0 : Vec F S4096x64 .bf16} {s3 : Vec F S4096x10 .bf16} (t : Fin cfg0.N) (ht : t.val < 8) (h0 : s0 = x1A m c) (y : S4096x10.Idx) :
    yStep (grid0.coords t) (iblk m c 1 t) s0 (iblk m c 11 t) s3 y = if (y 0).val / 512 = t.val then yA m c y else s3 y := by
  subst h0
  unfold yStep
  refine (put_rows (B := 512) s3 _ t.val (by decide) (off4_eq t ht) _ y).trans ?_
  by_cases h : (y 0).val / 512 = t.val
  · rw [if_pos h, if_pos h]; unfold yA; rw [h, pt_val]
  · rw [if_neg h, if_neg h]

/-- The point's half of `h` put in place. -/
theorem hStep_eq {s2 : Vec F S4096x10 .bf16} (t : Fin cfg0.N) (k : ℕ) (hk : halfPt k = t) (hc1 : AtHalf (grid0.coords t)) (hv : t.val = 4 * k) (hk1 : k ≤ 1) (y : S4096x10.Idx) :
    hStep (grid0.coords t) (mlpA m c t hc1) (iblk m c 8 t) (iblk m c 9 t) s2 y = if (y 0).val / 2048 = k then hA m c y else s2 y := by
  subst hk
  unfold hStep
  refine (put_rows (B := 2048) s2 _ k (by decide) ((off2_eq _ (by omega)).trans (by rw [hv]; congr 2; omega)) _ y).trans ?_
  by_cases h : (y 0).val / 2048 = k
  · rw [if_pos h, if_pos h]; subst h; rfl
  · rw [if_neg h, if_neg h]

/-- A first-phase point that leaves the perceptron alone. -/
theorem Inv.tile {s0 : Vec F S4096x64 .bf16} {s1 : Vec F S4096x4096 .bf16} {s2 s3 : Vec F S4096x10 .bf16} {s4 s5 : Vec F S10x10 .f32} (t : Fin cfg0.N)
    (h : Inv m c t.val s0 s1 s2 s3 s4 s5) (h8 : t.val < 8) (h0 : t.val ≠ 0) (h4 : t.val ≠ 4) :
    Inv m c (t.val + 1) s0 (abStep (grid0.coords t) (iblk m c 1 t) s1) s2 (yStep (grid0.coords t) (iblk m c 1 t) s0 (iblk m c 11 t) s3) s4 s5 where
  x1 _ := h.x1 (by omega)
  ab y hy := by
    rw [abStep_eq t h8]
    split
    · rfl
    · exact h.ab y (by omega)
  h y hy := h.h y (by omega)
  y y hy := by
    rw [yStep_eq t h8 (h.x1 (by omega))]
    split
    · rfl
    · exact h.y y (by omega)
  g1 _ _ := h.g1 (by omega) (by omega)
  g2 _ := h.g2 (by omega)
  inv _ := h.inv (by omega)

/-- The point that takes the second half of the perceptron's rows. -/
theorem Inv.half {s0 : Vec F S4096x64 .bf16} {s1 : Vec F S4096x4096 .bf16} {s2 s3 : Vec F S4096x10 .bf16} {s4 s5 : Vec F S10x10 .f32} (t : Fin cfg0.N)
    (h : Inv m c t.val s0 s1 s2 s3 s4 s5) (h4 : t.val = 4) (hc1 : AtHalf (grid0.coords t)) :
    Inv m c (t.val + 1) s0 (abStep (grid0.coords t) (iblk m c 1 t) s1) (hStep (grid0.coords t) (mlpA m c t hc1) (iblk m c 8 t) (iblk m c 9 t) s2)
      (yStep (grid0.coords t) (iblk m c 1 t) s0 (iblk m c 11 t) s3) (k0_pay59 (mlpA m c t hc1) (k0_pay2 (iblk m c 8 t)) (iblk m c 9 t) s4) s5 where
  x1 _ := h.x1 (by omega)
  ab y hy := by
    rw [abStep_eq t (by omega)]
    split
    · rfl
    · exact h.ab y (by omega)
  h y _ := by
    have hlt : (y 0).val < 4096 := (y 0).isLt
    rw [hStep_eq t 1 (Fin.ext h4.symm) hc1 h4 (by omega)]
    split
    · rfl
    · exact h.h y (by omega)
  y y hy := by
    rw [yStep_eq t (by omega) (h.x1 (by omega))]
    split
    · rfl
    · exact h.y y (by omega)
  g1 _ _ := by omega
  g2 _ := by
    obtain rfl : t = halfPt 1 := Fin.ext h4
    rw [h.g1 (by omega) (by omega)]; rfl
  inv _ := by omega

/-- The first point. -/
theorem Inv.first {s0 : Vec F S4096x64 .bf16} {s1 : Vec F S4096x4096 .bf16} {s2 s3 : Vec F S4096x10 .bf16} {s4 s5 : Vec F S10x10 .f32} (t : Fin cfg0.N)
    (h : Inv m c t.val s0 s1 s2 s3 s4 s5) (h0 : t.val = 0) (hc1 : AtHalf (grid0.coords t)) :
    Inv m c (t.val + 1) (k0_pay54 (iblk m c 0 t) (iblk m c 10 t)) (abStep (grid0.coords t) (iblk m c 1 t) s1)
      (hStep (grid0.coords t) (mlpA m c t hc1) (iblk m c 8 t) (iblk m c 9 t) s2)
      (yStep (grid0.coords t) (iblk m c 1 t) (k0_pay54 (iblk m c 0 t) (iblk m c 10 t)) (iblk m c 11 t) s3)
      (k0_pay58 (mlpA m c t hc1) (k0_pay2 (iblk m c 8 t)) (iblk m c 9 t)) s5 where
  x1 _ := by rw [show t = pt 0 from Fin.ext h0]; rfl
  ab y hy := by
    rw [abStep_eq t (by omega)]
    split
    · rfl
    · exact h.ab y (by omega)
  h y _ := by
    have hlt : (y 0).val < 4096 := (y 0).isLt
    rw [hStep_eq t 0 (Fin.ext h0.symm) hc1 h0 (by omega)]
    split
    · rfl
    · exact h.h y (by omega)
  y y hy := by
    rw [yStep_eq t (by omega) (by rw [show t = pt 0 from Fin.ext h0]; rfl)]
    split
    · rfl
    · exact h.y y (by omega)
  g1 _ _ := by
    obtain rfl : t = halfPt 0 := Fin.ext h0
    rfl
  g2 _ := by omega
  inv _ := by omega

/-- The first point of the second phase. -/
theorem Inv.invert {s0 : Vec F S4096x64 .bf16} {s1 : Vec F S4096x4096 .bf16} {s2 s3 : Vec F S4096x10 .bf16} {s4 s5 : Vec F S10x10 .f32} {n : ℕ}
    (h : Inv m c n s0 s1 s2 s3 s4 s5) (h8 : n = 8) : Inv m c (n + 1) s0 s1 s2 s3 s4 (invOf s4) where
  x1 _ := h.x1 (by omega)
  ab y hy := h.ab y (by have : (y 0).val < 4096 := (y 0).isLt; omega)
  h y _ := h.h y (by omega)
  y y hy := h.y y (by have : (y 0).val < 4096 := (y 0).isLt; omega)
  g1 _ _ := by omega
  g2 _ := h.g2 (by omega)
  inv _ := by rw [h.g2 (by omega)]

/-- Any later point. -/
theorem Inv.later {s0 : Vec F S4096x64 .bf16} {s1 : Vec F S4096x4096 .bf16} {s2 s3 : Vec F S4096x10 .bf16} {s4 s5 : Vec F S10x10 .f32} {n : ℕ}
    (h : Inv m c n s0 s1 s2 s3 s4 s5) (h9 : 9 ≤ n) : Inv m c (n + 1) s0 s1 s2 s3 s4 s5 where
  x1 _ := h.x1 (by omega)
  ab y hy := h.ab y (by have : (y 0).val < 4096 := (y 0).isLt; omega)
  h y _ := h.h y (by omega)
  y y hy := h.y y (by have : (y 0).val < 4096 := (y 0).isLt; omega)
  g1 _ _ := by omega
  g2 _ := h.g2 (by omega)
  inv _ := h.inv (by omega)

/-- In the second phase the scratch buffers hold whole arrays, so a stored block is the named one. -/
theorem Inv.blocks {s0 : Vec F S4096x64 .bf16} {s1 : Vec F S4096x4096 .bf16} {s2 s3 : Vec F S4096x10 .bf16} {s4 s5 : Vec F S10x10 .f32} (t : Fin cfg0.N)
    (h : Inv m c t.val s0 s1 s2 s3 s4 s5) (hc6 : AtPhaseB (grid0.coords t)) (s6 : Vec F S10x10 .f32) (h6 : s6 = invOf (g2A m c)) :
    orthoBlk (grid0.coords t) hc6 s2 s6 = orthoA m c t.val ∧ gBlk (grid0.coords t) hc6 s1 s3 = gA m c t.val := by
  have h8 := (atPhaseB_iff t).1 hc6
  have e1 : s1 = abA m c := funext fun y => h.ab y (by have : (y 0).val < 4096 := (y 0).isLt; omega)
  have e2 : s2 = hA m c := funext fun y => h.h y (by omega)
  have e3 : s3 = yA m c := funext fun y => h.y y (by have : (y 0).val < 4096 := (y 0).isLt; omega)
  have et := emitPt_eq t hc6
  subst e1 e2 e3 h6
  unfold orthoA gA
  constructor <;> congr 1 <;> rw [et]

end Cert.KernelIdeal.Hand

end
-- ==== Proof.Body.lean ====
/- The kernel's body at a grid point, as the pipeline asks for it: what each window's buffer holds before and after, and the invariant the
   scratch buffers keep. -/
module

public import proofs.«01_k».proof.Proof.Contents
public import Idealize.ShloMosaic.Lib.Claim
public import Idealize.ShloMosaic.Lib.Pipeline.TableIdle

@[expose] public section

set_option maxRecDepth 16384

noncomputable section

namespace Cert.KernelIdeal.Hand

open Idealize.ShloMosaic Idealize.ShloMosaic.TcCoe Idealize.ShloMosaic.Tactic Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ)

/-! ## The buffers at a point -/

abbrev ms0 (t : Fin cfg0.N) : Memref sig .tc .vmem S4096x128 .f32 := win0_0.stage (cfg0.slots t 0)
abbrev ms1 (t : Fin cfg0.N) : Memref sig .tc .vmem S512x4096 .f32 := win0_1.stage (cfg0.slots t 1)
abbrev ms2 (t : Fin cfg0.N) : Memref sig .tc .vmem S128x1024 .f32 := win0_2.stage (cfg0.slots t 2)
abbrev ms3 (t : Fin cfg0.N) : Memref sig .tc .vmem S1x1024 .f32 := win0_3.stage (cfg0.slots t 3)
abbrev ms4 (t : Fin cfg0.N) : Memref sig .tc .vmem S1024x512 .f32 := win0_4.stage (cfg0.slots t 4)
abbrev ms5 (t : Fin cfg0.N) : Memref sig .tc .vmem S1x512 .f32 := win0_5.stage (cfg0.slots t 5)
abbrev ms6 (t : Fin cfg0.N) : Memref sig .tc .vmem S512x64 .f32 := win0_6.stage (cfg0.slots t 6)
abbrev ms7 (t : Fin cfg0.N) : Memref sig .tc .vmem S1x64 .f32 := win0_7.stage (cfg0.slots t 7)
abbrev ms8 (t : Fin cfg0.N) : Memref sig .tc .vmem S64x10 .f32 := win0_8.stage (cfg0.slots t 8)
abbrev ms9 (t : Fin cfg0.N) : Memref sig .tc .vmem S1x10 .f32 := win0_9.stage (cfg0.slots t 9)
abbrev ms10 (t : Fin cfg0.N) : Memref sig .tc .vmem S128x64 .f32 := win0_10.stage (cfg0.slots t 10)
abbrev ms11 (t : Fin cfg0.N) : Memref sig .tc .vmem S64x10 .f32 := win0_11.stage (cfg0.slots t 11)
abbrev ms12 (t : Fin cfg0.N) : Memref sig .tc .vmem S1024x10 .f32 := win0_12.stage (cfg0.slots t 12)
abbrev ms13 (t : Fin cfg0.N) : Memref sig .tc .vmem S1024x10 .f32 := win0_13.stage (cfg0.slots t 13)
abbrev sc0 : Memref sig .tc .vmem S4096x64 .bf16 := Memref.whole cc0_scratch0
abbrev sc1 : Memref sig .tc .vmem S4096x4096 .bf16 := Memref.whole cc0_scratch1
abbrev sc2 : Memref sig .tc .vmem S4096x10 .bf16 := Memref.whole cc0_scratch2
abbrev sc3 : Memref sig .tc .vmem S4096x10 .bf16 := Memref.whole cc0_scratch3
abbrev sc4 : Memref sig .tc .vmem S10x10 .f32 := Memref.whole cc0_scratch4
abbrev sc5 : Memref sig .tc .vmem S10x10 .f32 := Memref.whole cc0_scratch5

/-- The scratch buffers at any contents, as the launch hands them over. -/
theorem scratch_eq (c : Dev nD) :
    (Pipeline.ΦA spec0 c : sProp 𝕄) = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d) ∗ (∃ d, owns (c : Thread nD τ) sc5 fullShare d)) ∗ (∃ r, prngReg c r)) := by
  unfold Pipeline.ΦA; rw [scopedRest0_eq]; simp only [sc0, sc1, sc2, sc3, sc4, sc5, owns_whole]; try rfl

/-! ## The proof data -/

/-- Before point `n`: the scratch buffers, at contents of which the facts before `n` hold. -/
def held (c : Dev nD) (n : ℕ) : sProp 𝕄 :=
  iprop(∃ s0 s1 s2 s3 s4 s5, ⌜Inv m c n s0 s1 s2 s3 s4 s5⌝ ∗ owns (c : Thread nD τ) sc0 fullShare s0 ∗ owns (c : Thread nD τ) sc1 fullShare s1 ∗ owns (c : Thread nD τ) sc2 fullShare s2 ∗ owns (c : Thread nD τ) sc3 fullShare s3 ∗ owns (c : Thread nD τ) sc4 fullShare s4 ∗ owns (c : Thread nD τ) sc5 fullShare s5 ∗ (∃ r, prngReg c r))

/-- An input window's buffer is left holding its block; a result window's holds the block stored at the last storing point of the block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => orthoA m c t.val
    | ⟨13, _⟩ => gA m c t.val
  Φ t := held m c t.val
  q _ := fullShare
  owed _ := 0

theorem A_eq (c : Dev nD) (w : Fin cfg0.W) : (dats m 0 c).A w = V m c (Pipeline.arrRef spec0 w) := by dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t = orthoA m c t.val := by dsimp only [dats]
theorem after13 (c : Dev nD) (t : Fin cfg0.N) : (dats m 0 c).after 13 t = gA m c t.val := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d
theorem before9 (c : Dev nD) (t : Fin cfg0.N) (d) : (dats m 0 c).before 9 t d = iblk m c 9 t :=
  before0_9_of m (dats m 0 c) (A_eq m c 9) (after9 m c) t d
theorem before10 (c : Dev nD) (t : Fin cfg0.N) (d) : (dats m 0 c).before 10 t d = iblk m c 10 t :=
  before0_10_of m (dats m 0 c) (A_eq m c 10) (after10 m c) t d
theorem before11 (c : Dev nD) (t : Fin cfg0.N) (d) : (dats m 0 c).before 11 t d = iblk m c 11 t :=
  before0_11_of m (dats m 0 c) (A_eq m c 11) (after11 m c) t d

/-! ## The points that store no result -/

theorem idle_iff : ∀ t : Fin cfg0.N, (cfg0.idle 12 (grid0.coords t) = true ∧ cfg0.idle 13 (grid0.coords t) = true ∨ 8 ≤ t.val ∧ t.val < 12)
      ∧ (8 ≤ t.val ∧ t.val < 12 → cfg0.idle 12 (grid0.coords t) = false ∧ cfg0.idle 13 (grid0.coords t) = false) := by
  decide +kernel

theorem fresh_last : cfg0.fresh 12 15 = false ∧ cfg0.fresh 13 15 = false := by decide +kernel

theorem flush_last : (∀ t : Fin cfg0.N, t.val = 15 → win0_12.flush t = true) ∧ (∀ t : Fin cfg0.N, t.val = 15 → win0_13.flush t = true) := by decide +kernel

theorem flush_iff : ∀ t : Fin cfg0.N, (t.val < 8 ∨ (12 ≤ t.val ∧ t.val < 15)) → win0_12.flush t = false ∧ win0_13.flush t = false := by decide +kernel

/-- At the last point, which stores nothing, window 12's buffer still holds the last block stored. -/
theorem before12_last (c : Dev nD) (t : Fin cfg0.N) (h : t.val = 15) (d) : (dats m 0 c).before 12 t d = orthoA m c t.val := by
  obtain ⟨tv, ht⟩ := t
  obtain rfl : tv = 15 := h
  rw [(dats m 0 c).before_out_traj 12 rfl (fun _ _ => rfl) (fun u hu hi _ => ?_) 15 ⟨15, ht⟩ rfl d, fresh_last.1, if_neg Bool.false_ne_true, after12]
  · rfl
  · rw [after12, after12]
    have hu' : ¬(8 ≤ u.val ∧ u.val < 12) := fun hB => by rw [((idle_iff u).2 hB).1] at hi; exact Bool.false_ne_true hi
    have e : emitPt u.val = emitPt (u.val - 1) := Fin.ext (by rw [emitPt_val, emitPt_val]; omega)
    unfold orthoA
    congr 1
    rw [e]

/-- Where no result is stored, window 12's buffer is left as it was. -/
theorem keep12 (c : Dev nD) (t : Fin cfg0.N) (h : ¬(8 ≤ t.val ∧ t.val < 12)) :
    iprop(∃ d, owns (c : Thread nD τ) (ms12 t) fullShare ((dats m 0 c).before 12 t d)) ⊢ ((dats m 0 c).leavesExact 12 t : sProp 𝕄) := by
  have hi : cfg0.idle 12 (grid0.coords t) = true := ((idle_iff t).1.resolve_right h).1
  have hN : t.val < 16 := lt_of_lt_of_eq t.isLt (show cfg0.N = 16 from N_0)
  by_cases h15 : t.val = 15
  · have hl : ((dats m 0 c).leavesExact 12 t : sProp 𝕄) = owns (c : Thread nD τ) (ms12 t) fullShare ((dats m 0 c).after 12 t) := by
      unfold Dat.leavesExact
      rw [hi, show (cfg0.win 12).flush t = true from flush_last.1 t h15]
    rw [hl, after12]
    iintro ⟨%d, H⟩
    rw [before12_last m c t h15 d]
    iexact H
  · rw [(dats m 0 c).leavesExact_idle 12 t hi ((flush_iff t (by omega)).1)]

/-- Where a result is stored, window 12's buffer holds the block named. -/
theorem give12 (c : Dev nD) (t : Fin cfg0.N) (h : 8 ≤ t.val ∧ t.val < 12) (X : Vec F S1024x10 .f32) (hX : X = orthoA m c t.val) :
    owns (c : Thread nD τ) (ms12 t) fullShare X ⊢ ((dats m 0 c).leavesExact 12 t : sProp 𝕄) := by
  have hl : ((dats m 0 c).leavesExact 12 t : sProp 𝕄) = owns (c : Thread nD τ) (ms12 t) fullShare ((dats m 0 c).after 12 t) := by
    unfold Dat.leavesExact
    rw [((idle_iff t).2 h).1]
  rw [hl, after12, hX]

/-- At the last point, which stores nothing, window 13's buffer still holds the last block stored. -/
theorem before13_last (c : Dev nD) (t : Fin cfg0.N) (h : t.val = 15) (d) : (dats m 0 c).before 13 t d = gA m c t.val := by
  obtain ⟨tv, ht⟩ := t
  obtain rfl : tv = 15 := h
  rw [(dats m 0 c).before_out_traj 13 rfl (fun _ _ => rfl) (fun u hu hi _ => ?_) 15 ⟨15, ht⟩ rfl d, fresh_last.2, if_neg Bool.false_ne_true, after13]
  · rfl
  · rw [after13, after13]
    have hu' : ¬(8 ≤ u.val ∧ u.val < 12) := fun hB => by rw [((idle_iff u).2 hB).2] at hi; exact Bool.false_ne_true hi
    have e : emitPt u.val = emitPt (u.val - 1) := Fin.ext (by rw [emitPt_val, emitPt_val]; omega)
    unfold gA
    congr 1
    rw [e]

/-- Where no result is stored, window 13's buffer is left as it was. -/
theorem keep13 (c : Dev nD) (t : Fin cfg0.N) (h : ¬(8 ≤ t.val ∧ t.val < 12)) :
    iprop(∃ d, owns (c : Thread nD τ) (ms13 t) fullShare ((dats m 0 c).before 13 t d)) ⊢ ((dats m 0 c).leavesExact 13 t : sProp 𝕄) := by
  have hi : cfg0.idle 13 (grid0.coords t) = true := ((idle_iff t).1.resolve_right h).2
  have hN : t.val < 16 := lt_of_lt_of_eq t.isLt (show cfg0.N = 16 from N_0)
  by_cases h15 : t.val = 15
  · have hl : ((dats m 0 c).leavesExact 13 t : sProp 𝕄) = owns (c : Thread nD τ) (ms13 t) fullShare ((dats m 0 c).after 13 t) := by
      unfold Dat.leavesExact
      rw [hi, show (cfg0.win 13).flush t = true from flush_last.2 t h15]
    rw [hl, after13]
    iintro ⟨%d, H⟩
    rw [before13_last m c t h15 d]
    iexact H
  · rw [(dats m 0 c).leavesExact_idle 13 t hi ((flush_iff t (by omega)).2)]

/-- Where a result is stored, window 13's buffer holds the block named. -/
theorem give13 (c : Dev nD) (t : Fin cfg0.N) (h : 8 ≤ t.val ∧ t.val < 12) (X : Vec F S1024x10 .f32) (hX : X = gA m c t.val) :
    owns (c : Thread nD τ) (ms13 t) fullShare X ⊢ ((dats m 0 c).leavesExact 13 t : sProp 𝕄) := by
  have hl : ((dats m 0 c).leavesExact 13 t : sProp 𝕄) = owns (c : Thread nD τ) (ms13 t) fullShare ((dats m 0 c).after 13 t) := by
    unfold Dat.leavesExact
    rw [((idle_iff t).2 h).2]
  rw [hl, after13, hX]

/-! ## The body -/

/-- The input windows' buffers, each holding its block. -/
def inputs (c : Dev nD) (t : Fin cfg0.N) : sProp 𝕄 :=
  iprop(owns (c : Thread nD τ) (ms0 t) fullShare (iblk m c 0 t) ∗ owns (c : Thread nD τ) (ms1 t) fullShare (iblk m c 1 t) ∗ owns (c : Thread nD τ) (ms2 t) fullShare (iblk m c 2 t) ∗ owns (c : Thread nD τ) (ms3 t) fullShare (iblk m c 3 t) ∗ owns (c : Thread nD τ) (ms4 t) fullShare (iblk m c 4 t) ∗ owns (c : Thread nD τ) (ms5 t) fullShare (iblk m c 5 t) ∗ owns (c : Thread nD τ) (ms6 t) fullShare (iblk m c 6 t) ∗ owns (c : Thread nD τ) (ms7 t) fullShare (iblk m c 7 t) ∗ owns (c : Thread nD τ) (ms8 t) fullShare (iblk m c 8 t) ∗ owns (c : Thread nD τ) (ms9 t) fullShare (iblk m c 9 t) ∗ owns (c : Thread nD τ) (ms10 t) fullShare (iblk m c 10 t) ∗ owns (c : Thread nD τ) (ms11 t) fullShare (iblk m c 11 t))

/-- What the body is called with at point `t`, -/
def bodyPre (c : Dev nD) (t : Fin cfg0.N) : sProp 𝕄 :=
  iprop(held m c t.val ∗ (dats m 0 c).owesAt () t.castSucc ∗ owns (c : Thread nD τ) (ms0 t) fullShare (iblk m c 0 t) ∗ owns (c : Thread nD τ) (ms1 t) fullShare (iblk m c 1 t) ∗ owns (c : Thread nD τ) (ms2 t) fullShare (iblk m c 2 t) ∗ owns (c : Thread nD τ) (ms3 t) fullShare (iblk m c 3 t) ∗ owns (c : Thread nD τ) (ms4 t) fullShare (iblk m c 4 t) ∗ owns (c : Thread nD τ) (ms5 t) fullShare (iblk m c 5 t) ∗ owns (c : Thread nD τ) (ms6 t) fullShare (iblk m c 6 t) ∗ owns (c : Thread nD τ) (ms7 t) fullShare (iblk m c 7 t) ∗ owns (c : Thread nD τ) (ms8 t) fullShare (iblk m c 8 t) ∗ owns (c : Thread nD τ) (ms9 t) fullShare (iblk m c 9 t) ∗ owns (c : Thread nD τ) (ms10 t) fullShare (iblk m c 10 t) ∗ owns (c : Thread nD τ) (ms11 t) fullShare (iblk m c 11 t)
    ∗ (∃ d, owns (c : Thread nD τ) (ms12 t) fullShare ((dats m 0 c).before 12 t d))
    ∗ (∃ d, owns (c : Thread nD τ) (ms13 t) fullShare ((dats m 0 c).before 13 t d)))

/-- and what it returns. -/
def bodyPost (c : Dev nD) (t : Fin cfg0.N) : sProp 𝕄 :=
  iprop(held m c (t.val + 1) ∗ (dats m 0 c).owesAt () t.castSucc ∗ owns (c : Thread nD τ) (ms0 t) fullShare (iblk m c 0 t) ∗ owns (c : Thread nD τ) (ms1 t) fullShare (iblk m c 1 t) ∗ owns (c : Thread nD τ) (ms2 t) fullShare (iblk m c 2 t) ∗ owns (c : Thread nD τ) (ms3 t) fullShare (iblk m c 3 t) ∗ owns (c : Thread nD τ) (ms4 t) fullShare (iblk m c 4 t) ∗ owns (c : Thread nD τ) (ms5 t) fullShare (iblk m c 5 t) ∗ owns (c : Thread nD τ) (ms6 t) fullShare (iblk m c 6 t) ∗ owns (c : Thread nD τ) (ms7 t) fullShare (iblk m c 7 t) ∗ owns (c : Thread nD τ) (ms8 t) fullShare (iblk m c 8 t) ∗ owns (c : Thread nD τ) (ms9 t) fullShare (iblk m c 9 t) ∗ owns (c : Thread nD τ) (ms10 t) fullShare (iblk m c 10 t) ∗ owns (c : Thread nD τ) (ms11 t) fullShare (iblk m c 11 t)
    ∗ (dats m 0 c).leavesExact 12 t ∗ (dats m 0 c).leavesExact 13 t)

/-- A first-phase point that stores its rows and nothing else. -/
theorem body_tile (c : Dev nD) (t : Fin cfg0.N) (h8 : t.val < 8) (h0 : t.val ≠ 0) (h4 : t.val ≠ 4) :
    bodyPre m c t ⊢ wp frame (wpE (defs₀ (F := F)) Variants.none c none) Set.univ (bodyAt0 t) (fun _ => bodyPost m c t) := by
  unfold bodyPre bodyPost bodyAt0 held
  iintro ⟨⟨%s0, %s1, %s2, %s3, %s4, %s5, %hs, S0, S1, S2, S3, S4, S5, Hg⟩, Ho, H0, H1, H2, H3, H4, H5, H6, H7, H8, H9, H10, H11, H12, H13⟩
  iapply (run_tile (hc0 := mt (atFirst_iff t).1 (by omega)) (hc1 := mt (atHalf_iff t).1 (by omega)) (hc4 := (atPhaseA_iff t).2 (by omega))
    (hc5 := mt (atInvert_iff t).1 (by omega)) (hc6 := mt (atPhaseB_iff t).1 (by omega)))
  isplitl [H1]; · iexact H1
  isplitl [H11]; · iexact H11
  isplitl [S0]; · iexact S0
  isplitl [S1]; · iexact S1
  isplitl [S3]; · iexact S3
  iintro ⟨H1, H11, S0, S1, S3⟩
  isplitl [S0 S1 S2 S3 S4 S5 Hg]
  · iexists _; iexists _; iexists _; iexists _; iexists _; iexists _
    isplitr; · ipureintro; exact hs.tile t h8 h0 h4
    iframe
  isplitl [Ho]; · iexact Ho
  iframe
  isplitl [H12]; · iapply (keep12 m c t (by omega)); iexact H12
  iapply (keep13 m c t (by omega)); iexact H13

/-- The point that takes the second half of the perceptron's rows. -/
theorem body_half (c : Dev nD) (t : Fin cfg0.N) (h4 : t.val = 4) :
    bodyPre m c t ⊢ wp frame (wpE (defs₀ (F := F)) Variants.none c none) Set.univ (bodyAt0 t) (fun _ => bodyPost m c t) := by
  have hc1 := (atHalf_iff t).2 (Or.inr h4)
  unfold bodyPre bodyPost bodyAt0 held
  iintro ⟨⟨%s0, %s1, %s2, %s3, %s4, %s5, %hs, S0, S1, S2, S3, S4, S5, Hg⟩, Ho, H0, H1, H2, H3, H4, H5, H6, H7, H8, H9, H10, H11, H12, H13⟩
  iapply (run_half (hc0 := mt (atFirst_iff t).1 (by omega)) (hc1 := hc1) (hc2 := mt (atZero_iff t).1 (by omega)) (hc3 := (atLater_iff t).2 (by omega))
    (hc4 := (atPhaseA_iff t).2 (by omega)) (hc5 := mt (atInvert_iff t).1 (by omega)) (hc6 := mt (atPhaseB_iff t).1 (by omega)))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H11]; · iexact H11
  isplitl [S0]; · iexact S0
  isplitl [S1]; · iexact S1
  isplitl [S2]; · iexact S2
  isplitl [S3]; · iexact S3
  isplitl [S4]; · iexact S4
  iintro ⟨H0, H1, H2, H3, H4, H5, H6, H7, H8, H9, H11, S0, S1, S2, S3, S4⟩
  isplitl [S0 S1 S2 S3 S4 S5 Hg]
  · iexists _; iexists _; iexists _; iexists _; iexists _; iexists _
    isplitr; · ipureintro; exact hs.half t h4 hc1
    iframe
    isplitl [S2]; · iexact S2
    iexact S4
  isplitl [Ho]; · iexact Ho
  iframe
  isplitl [H12]; · iapply (keep12 m c t (by omega)); iexact H12
  iapply (keep13 m c t (by omega)); iexact H13

/-- The first point. -/
theorem body_first (c : Dev nD) (t : Fin cfg0.N) (h0 : t.val = 0) :
    bodyPre m c t ⊢ wp frame (wpE (defs₀ (F := F)) Variants.none c none) Set.univ (bodyAt0 t) (fun _ => bodyPost m c t) := by
  have hc1 := (atHalf_iff t).2 (Or.inl h0)
  unfold bodyPre bodyPost bodyAt0 held
  iintro ⟨⟨%s0, %s1, %s2, %s3, %s4, %s5, %hs, S0, S1, S2, S3, S4, S5, Hg⟩, Ho, H0, H1, H2, H3, H4, H5, H6, H7, H8, H9, H10, H11, H12, H13⟩
  iapply (run_first (hc0 := (atFirst_iff t).2 h0) (hc1 := hc1) (hc2 := (atZero_iff t).2 (Or.inl h0)) (hc3 := mt (atLater_iff t).1 (by omega))
    (hc4 := (atPhaseA_iff t).2 (by omega)) (hc5 := mt (atInvert_iff t).1 (by omega)) (hc6 := mt (atPhaseB_iff t).1 (by omega)))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [S0]; · iexact S0
  isplitl [S1]; · iexact S1
  isplitl [S2]; · iexact S2
  isplitl [S3]; · iexact S3
  isplitl [S4]; · iexact S4
  iintro ⟨H0, H1, H2, H3, H4, H5, H6, H7, H8, H9, H10, H11, S0, S1, S2, S3, S4⟩
  isplitl [S0 S1 S2 S3 S4 S5 Hg]
  · iexists _; iexists _; iexists _; iexists _; iexists _; iexists _
    isplitr; · ipureintro; exact hs.first t h0 hc1
    iframe
    isplitl [S2]; · iexact S2
    iexact S4
  isplitl [Ho]; · iexact Ho
  iframe
  isplitl [H12]; · iapply (keep12 m c t (by omega)); iexact H12
  iapply (keep13 m c t (by omega)); iexact H13

/-- The point that inverts the factor and stores the first block of each result. -/
theorem body_invert (c : Dev nD) (t : Fin cfg0.N) (h8 : t.val = 8) :
    bodyPre m c t ⊢ wp frame (wpE (defs₀ (F := F)) Variants.none c none) Set.univ (bodyAt0 t) (fun _ => bodyPost m c t) := by
  have h : 8 ≤ t.val ∧ t.val < 12 := by omega
  have hc6 := (atPhaseB_iff t).2 h
  unfold bodyPre bodyPost bodyAt0 held
  iintro ⟨⟨%s0, %s1, %s2, %s3, %s4, %s5, %hs, S0, S1, S2, S3, S4, S5, Hg⟩, Ho, H0, H1, H2, H3, H4, H5, H6, H7, H8, H9, H10, H11, H12, H13⟩
  have hb := hs.blocks t hc6 (invOf s4) (by rw [hs.g2 (by omega)])
  icases H12 with ⟨%d12, H12⟩
  icases H13 with ⟨%d13, H13⟩
  iapply (run_invert (hc0 := mt (atFirst_iff t).1 (by omega)) (hc1 := mt (atHalf_iff t).1 (by omega)) (hc4 := mt (atPhaseA_iff t).1 (by omega))
    (hc5 := (atInvert_iff t).2 h8) (hc6 := hc6))
  isplitl [H12]; · iexact H12
  isplitl [H13]; · iexact H13
  isplitl [S1]; · iexact S1
  isplitl [S2]; · iexact S2
  isplitl [S3]; · iexact S3
  isplitl [S4]; · iexact S4
  isplitl [S5]; · iexact S5
  iintro ⟨H12, H13, S1, S2, S3, S4, S5⟩
  isplitl [S0 S1 S2 S3 S4 S5 Hg]
  · iexists _; iexists _; iexists _; iexists _; iexists _; iexists _
    isplitr; · ipureintro; exact hs.invert h8
    iframe
  isplitl [Ho]; · iexact Ho
  iframe
  isplitl [H12]; · iapply (give12 m c t h _ hb.1); iexact H12
  iapply (give13 m c t h _ hb.2); iexact H13

/-- A later point that stores a block of each result. -/
theorem body_emit (c : Dev nD) (t : Fin cfg0.N) (h9 : 9 ≤ t.val) (h12 : t.val < 12) :
    bodyPre m c t ⊢ wp frame (wpE (defs₀ (F := F)) Variants.none c none) Set.univ (bodyAt0 t) (fun _ => bodyPost m c t) := by
  have h : 8 ≤ t.val ∧ t.val < 12 := by omega
  have hc6 := (atPhaseB_iff t).2 h
  unfold bodyPre bodyPost bodyAt0 held
  iintro ⟨⟨%s0, %s1, %s2, %s3, %s4, %s5, %hs, S0, S1, S2, S3, S4, S5, Hg⟩, Ho, H0, H1, H2, H3, H4, H5, H6, H7, H8, H9, H10, H11, H12, H13⟩
  have hb := hs.blocks t hc6 s5 (hs.inv h9)
  icases H12 with ⟨%d12, H12⟩
  icases H13 with ⟨%d13, H13⟩
  iapply (run_emit (hc0 := mt (atFirst_iff t).1 (by omega)) (hc1 := mt (atHalf_iff t).1 (by omega)) (hc4 := mt (atPhaseA_iff t).1 (by omega))
    (hc5 := mt (atInvert_iff t).1 (by omega)) (hc6 := hc6))
  isplitl [H12]; · iexact H12
  isplitl [H13]; · iexact H13
  isplitl [S1]; · iexact S1
  isplitl [S2]; · iexact S2
  isplitl [S3]; · iexact S3
  isplitl [S5]; · iexact S5
  iintro ⟨H12, H13, S1, S2, S3, S5⟩
  isplitl [S0 S1 S2 S3 S4 S5 Hg]
  · iexists _; iexists _; iexists _; iexists _; iexists _; iexists _
    isplitr; · ipureintro; exact hs.later h9
    iframe
  isplitl [Ho]; · iexact Ho
  iframe
  isplitl [H12]; · iapply (give12 m c t h _ hb.1); iexact H12
  iapply (give13 m c t h _ hb.2); iexact H13

/-- A point that does nothing. -/
theorem body_rest (c : Dev nD) (t : Fin cfg0.N) (h12 : 12 ≤ t.val) :
    bodyPre m c t ⊢ wp frame (wpE (defs₀ (F := F)) Variants.none c none) Set.univ (bodyAt0 t) (fun _ => bodyPost m c t) := by
  unfold bodyPre bodyPost bodyAt0 held
  iintro ⟨⟨%s0, %s1, %s2, %s3, %s4, %s5, %hs, S0, S1, S2, S3, S4, S5, Hg⟩, Ho, H0, H1, H2, H3, H4, H5, H6, H7, H8, H9, H10, H11, H12, H13⟩
  iapply (run_rest (hc0 := mt (atFirst_iff t).1 (by omega)) (hc1 := mt (atHalf_iff t).1 (by omega)) (hc4 := mt (atPhaseA_iff t).1 (by omega))
    (hc5 := mt (atInvert_iff t).1 (by omega)) (hc6 := mt (atPhaseB_iff t).1 (by omega)))
  isplitl [S0 S1 S2 S3 S4 S5 Hg]
  · iexists _; iexists _; iexists _; iexists _; iexists _; iexists _
    isplitr; · ipureintro; exact hs.later (by omega)
    iframe
  isplitl [Ho]; · iexact Ho
  iframe
  isplitl [H12]; · iapply (keep12 m c t (by omega)); iexact H12
  iapply (keep13 m c t (by omega)); iexact H13

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h0 : t.val = 0
  · exact body_first m c t h0
  by_cases h4 : t.val = 4
  · exact body_half m c t h4
  by_cases h8 : t.val < 8
  · exact body_tile m c t h8 h0 h4
  by_cases h9 : t.val = 8
  · exact body_invert m c t h9
  by_cases h12 : t.val < 12
  · exact body_emit m c t (by omega) h12
  · exact body_rest m c t (by omega)

end Cert.KernelIdeal.Hand

end
-- ==== Proof.Launch.lean ====
/- The run of the whole program: at every final state each array of the pipeline holds what its stored blocks left there, the arguments are
   unchanged and every counter is zero. -/
module

public import proofs.«01_k».proof.Proof.Body
public import Idealize.ShloMosaic.Lib.Pipeline.FrameBody

@[expose] public section

set_option maxRecDepth 16384

noncomputable section

namespace Cert.KernelIdeal.Hand

open Idealize.ShloMosaic Idealize.ShloMosaic.TcCoe Idealize.ShloMosaic.Tactic Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pipeline's body at a point is the kernel on the point's buffers. -/
theorem defs₀_row (t : Fin cfg0.N) : defs₀ (F := F) .tc cfg0.body (cfg0.bodyArgs t (cfg0.slots t)) = bodyAt0 (F := F) t := by
  unfold defs₀; rw [Defs.onTc_tc]

/-- The body meets the pipeline's demand at every point. -/
theorem body_obligation (c : Dev nD) : BodyObligation (dats m 0 c) (defs₀ (F := F)) Variants.none () Set.univ := fun t => by
  rw [bigSep_W0, bigSep_W0, defs₀_row, show (dats m 0 c).Φ t.castSucc = held m c t.val from rfl, show (dats m 0 c).Φ t.succ = held m c (t.val + 1) from rfl]
  simp only [before0, before1, before2, before3, before4, before5, before6, before7, before8, before9, before10, before11]
  refine triple_restated (sound_body m c t) rfl ?_ fun _ => ?_
  · unfold bodyPre
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, H12, H13⟩
    isplitl [HΦ]; · iexact HΦ
    iframe
  · unfold bodyPost Dat.leavesExact
    simp only [after0, after1, after2, after3, after4, after5, after6, after7, after8, after9, after10, after11]
    iintro ⟨HΦ, Ho, H0, H1, H2, H3, H4, H5, H6, H7, H8, H9, H10, H11, H12, H13⟩
    isplitl [HΦ]; · iexact HΦ
    isplitl [Ho]; · iexact Ho
    iframe

/-- What the launch hands over is the invariant before the first point. -/
theorem hin (c : Dev nD) : Pipeline.ΦA spec0 c ⊢ ((dats m 0 c).Φ 0 : sProp 𝕄) := by
  rw [show (dats m 0 c).Φ 0 = held m c 0 from rfl, scratch_eq]
  unfold held
  iintro ⟨⟨⟨%s0, S0⟩, ⟨%s1, S1⟩, ⟨%s2, S2⟩, ⟨%s3, S3⟩, ⟨%s4, S4⟩, ⟨%s5, S5⟩⟩, Hg⟩
  iexists s0; iexists s1; iexists s2; iexists s3; iexists s4; iexists s5
  isplitr; · ipureintro; exact Inv.zero m c s0 s1 s2 s3 s4 s5
  iframe

/-- After the last point the scratch buffers are given back. -/
theorem hout (c : Dev nD) : ((dats m 0 c).Φ (Fin.last cfg0.N) : sProp 𝕄) ⊢ Pipeline.ΦA spec0 c := by
  rw [show (dats m 0 c).Φ (Fin.last cfg0.N) = held m c cfg0.N from rfl, scratch_eq]
  unfold held
  iintro ⟨%s0, %s1, %s2, %s3, %s4, %s5, %hs, S0, S1, S2, S3, S4, S5, Hg⟩
  isplitl [S0 S1 S2 S3 S4 S5]
  · isplitl [S0]; · iexists _; iexact S0
    isplitl [S1]; · iexists _; iexact S1
    isplitl [S2]; · iexists _; iexact S2
    isplitl [S3]; · iexists _; iexact S3
    isplitl [S4]; · iexists _; iexact S4
    iexists _; iexact S5
  iexact Hg

-- the implicit arguments are found by unifying the conclusion with this one, which takes unfolding plain definitions in types
set_option backward.isDefEq.respectTransparency.types false in
/-- Every execution ends, with every array as its stored blocks left it and every counter at zero. -/
theorem run_main : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- Every execution ends with the arguments unchanged and every counter at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  θ_run_and (frame_of m ρ (dats m) (A_eq m) ((θ_run defs _ _).mono (fun _ h => h.1) (run_main m ρ))) ((θ_run defs _ _).mono (fun _ h => h.2) (run_main m ρ))

end Cert.KernelIdeal.Hand

end
-- ==== Proof.Blocks.lean ====
/- The blocks the pipeline hands the body, entry by entry of the arguments. -/
module

public import proofs.«01_k».proof.Proof.Contents
public import Idealize.ShloMosaic.Lib.Claim
public import Idealize.ShloMosaic.Lib.Pipeline.ValueKit.Point
public import Idealize.ShloMosaic.Lib.Pointwise

@[expose] public section

set_option maxRecDepth 16384

noncomputable section

namespace Cert.KernelIdeal.Hand

open Idealize.ShloMosaic Idealize.ShloMosaic.TcCoe Cert.KernelIdeal.Gen

variable (m : (ℓ : Loc nD τ sig) → Buf (Elt Ideal) ℓ) (c : Dev nD)

/-- Where each window is at each point. -/
theorem idx_whole : ∀ t : Fin cfg0.N, win0_0.index t = ![0, 0] ∧ win0_2.index t = ![0, 0] ∧ win0_3.index t = ![0, 0] ∧ win0_4.index t = ![0, 0]
    ∧ win0_5.index t = ![0, 0] ∧ win0_6.index t = ![0, 0] ∧ win0_7.index t = ![0, 0] ∧ win0_8.index t = ![0, 0] ∧ win0_9.index t = ![0, 0]
    ∧ win0_10.index t = ![0, 0] ∧ win0_11.index t = ![0, 0] := by decide +kernel

theorem idx_rows : ∀ t : Fin cfg0.N, t.val < 8 → win0_1.index t = ![t.val, 0] := by decide +kernel

/-- The zero the padded columns hold. -/
theorem pad_zero : FloatOps.sitofp (F := Ideal) FTy.f32 (0#32) = (0 : EReal) := by
  show ((((0#32 : BitVec 32).toInt : ℤ) : ℝ) : EReal) = 0
  simp

/-- Fourteen zero columns after fifty. -/
theorem pad_cols (x : S512x50.Idx → EReal) (r : Fin 512) (k : Fin 64) :
    pad S512x64 ![0, 0] ![0, 14] ![0, 0] x (sitofp (F := Ideal) .f32 (constantI S_ 32 0#32) : S_.Idx → EReal) pads_S512x50_S512x64_000_0140 h_S_ (ix2 r k)
      = if h : k.val < 50 then x (ix2 r (⟨k.val, h⟩ : Fin 50)) else 0 := by
  pointwise [pad_zero]

/-- Fourteen zero rows after fifty. -/
theorem pad_rows (x : S50x10.Idx → EReal) (k : Fin 64) (j : Fin 10) :
    pad S64x10 ![0, 0] ![14, 0] ![0, 0] x (sitofp (F := Ideal) .f32 (constantI S_ 32 0#32) : S_.Idx → EReal) pads_S50x10_S64x10_0140_000 h_S_ (ix2 k j)
      = if h : k.val < 50 then x (ix2 (⟨k.val, h⟩ : Fin 50) j) else 0 := by
  pointwise [pad_zero]

/-- Fourteen zeros after fifty entries, as one row. -/
theorem pad_row (x : S50.Idx → EReal) (k : Fin 64) :
    shapeCast S1x64 (pad S64 ![0] ![14] ![0] x (sitofp (F := Ideal) .f32 (constantI S_ 32 0#32) : S_.Idx → EReal) pads_S50_S64_0140 h_S_) shapeCasts_S64_S1x64 (ix2 0 k)
      = if h : k.val < 50 then x (ix1 (⟨k.val, h⟩ : Fin 50)) else 0 := by
  pointwise [pad_zero]

theorem blk0 (t : Fin cfg0.N) (r : Fin 4096) (k : Fin 128) : iblk m c 0 t (ix2 r k) = m ((c : Thread nD τ).loc main_arg0) (ix2 r k) := by
  blk_ext [iblk, V, idx_whole t]
theorem blk1 (t : Fin cfg0.N) (h : t.val < 8) (r : Fin 512) (k : Fin 4096) :
    iblk m c 1 t (ix2 r k) = m ((c : Thread nD τ).loc main_arg1) (ix2 (⟨512 * t.val + r.val, by omega⟩ : Fin 4096) k) := by
  blk_ext [iblk, V, idx_rows t h]
theorem blk2 (t : Fin cfg0.N) (r : Fin 128) (k : Fin 1024) : iblk m c 2 t (ix2 r k) = m ((c : Thread nD τ).loc main_arg2) (ix2 r k) := by
  blk_ext [iblk, V, idx_whole t]
theorem blk3 (t : Fin cfg0.N) (k : Fin 1024) : iblk m c 3 t (ix2 0 k) = m ((c : Thread nD τ).loc main_arg3) (ix1 k) := by
  show V m c main_v4 ((win0_3.blk t).view.emb (ix2 0 k)) = _
  rw [show (win0_3.blk t).view.emb (ix2 0 k) = ix2 0 k by blk_ext [idx_whole t]]
  simp only [V, hostOps0, hostOps0_1, hostOps0_2, hostOps0_3, hostOps0_4, hostOps0_5, hostOps0_6, List.flatten_cons, List.flatten_nil, List.append_nil,
    List.cons_append, List.nil_append]
  entry_read
  pointwise []
theorem blk4 (t : Fin cfg0.N) (r : Fin 1024) (k : Fin 512) : iblk m c 4 t (ix2 r k) = m ((c : Thread nD τ).loc main_arg4) (ix2 r k) := by
  blk_ext [iblk, V, idx_whole t]
theorem blk5 (t : Fin cfg0.N) (k : Fin 512) : iblk m c 5 t (ix2 0 k) = m ((c : Thread nD τ).loc main_arg5) (ix1 k) := by
  show V m c main_v5 ((win0_5.blk t).view.emb (ix2 0 k)) = _
  rw [show (win0_5.blk t).view.emb (ix2 0 k) = ix2 0 k by blk_ext [idx_whole t]]
  simp only [V, hostOps0, hostOps0_1, hostOps0_2, hostOps0_3, hostOps0_4, hostOps0_5, hostOps0_6, List.flatten_cons, List.flatten_nil, List.append_nil,
    List.cons_append, List.nil_append]
  entry_read
  pointwise []
theorem blk6 (t : Fin cfg0.N) (r : Fin 512) (k : Fin 64) :
    iblk m c 6 t (ix2 r k) = (if h : k.val < 50 then m ((c : Thread nD τ).loc main_arg6) (ix2 r (⟨k.val, h⟩ : Fin 50)) else (0 : EReal) : EReal) := by
  show V m c main_v0 ((win0_6.blk t).view.emb (ix2 r k)) = _
  rw [show (win0_6.blk t).view.emb (ix2 r k) = (ix2 r k) by blk_ext [idx_whole t]]
  simp only [V, hostOps0, hostOps0_1, hostOps0_2, hostOps0_3, hostOps0_4, hostOps0_5, hostOps0_6, List.flatten_cons, List.flatten_nil, List.append_nil,
    List.cons_append, List.nil_append]
  entry_read
  exact pad_cols _ r k
theorem blk7 (t : Fin cfg0.N) (k : Fin 64) :
    iblk m c 7 t (ix2 0 k) = (if h : k.val < 50 then m ((c : Thread nD τ).loc main_arg7) (ix1 (⟨k.val, h⟩ : Fin 50)) else (0 : EReal) : EReal) := by
  show V m c main_v2 ((win0_7.blk t).view.emb (ix2 0 k)) = _
  rw [show (win0_7.blk t).view.emb (ix2 0 k) = (ix2 0 k) by blk_ext [idx_whole t]]
  simp only [V, hostOps0, hostOps0_1, hostOps0_2, hostOps0_3, hostOps0_4, hostOps0_5, hostOps0_6, List.flatten_cons, List.flatten_nil, List.append_nil,
    List.cons_append, List.nil_append]
  entry_read
  exact pad_row _ k
theorem blk8 (t : Fin cfg0.N) (k : Fin 64) (j : Fin 10) :
    iblk m c 8 t (ix2 k j) = (if h : k.val < 50 then m ((c : Thread nD τ).loc main_arg8) (ix2 (⟨k.val, h⟩ : Fin 50) j) else (0 : EReal) : EReal) := by
  show V m c main_v3 ((win0_8.blk t).view.emb (ix2 k j)) = _
  rw [show (win0_8.blk t).view.emb (ix2 k j) = (ix2 k j) by blk_ext [idx_whole t]]
  simp only [V, hostOps0, hostOps0_1, hostOps0_2, hostOps0_3, hostOps0_4, hostOps0_5, hostOps0_6, List.flatten_cons, List.flatten_nil, List.append_nil,
    List.cons_append, List.nil_append]
  entry_read
  exact pad_rows _ k j
theorem blk9 (t : Fin cfg0.N) (k : Fin 10) : iblk m c 9 t (ix2 0 k) = m ((c : Thread nD τ).loc main_arg9) (ix1 k) := by
  show V m c main_v6 ((win0_9.blk t).view.emb (ix2 0 k)) = _
  rw [show (win0_9.blk t).view.emb (ix2 0 k) = ix2 0 k by blk_ext [idx_whole t]]
  simp only [V, hostOps0, hostOps0_1, hostOps0_2, hostOps0_3, hostOps0_4, hostOps0_5, hostOps0_6, List.flatten_cons, List.flatten_nil, List.append_nil,
    List.cons_append, List.nil_append]
  entry_read
  pointwise []
theorem blk10 (t : Fin cfg0.N) (r : Fin 128) (k : Fin 64) : iblk m c 10 t (ix2 r k) = m ((c : Thread nD τ).loc main_arg10) (ix2 r k) := by
  blk_ext [iblk, V, idx_whole t]
theorem blk11 (t : Fin cfg0.N) (r : Fin 64) (k : Fin 10) : iblk m c 11 t (ix2 r k) = m ((c : Thread nD τ).loc main_arg11) (ix2 r k) := by
  blk_ext [iblk, V, idx_whole t]

end Cert.KernelIdeal.Hand

end
-- ==== Proof.Model.lean ====
/- The mathematics of the kernel and of the reference, entry by entry over the extended reals, with no layout in it. -/
module

public import Idealize.ShloMosaic.Lib.Pointwise
public import Idealize.ShloMosaic.Lib.Pipeline.ValueKit

@[expose] public section

noncomputable section

namespace Cert.Model

open Idealize.ShloMosaic

/-- A table of extended reals. -/
abbrev Tab (a b : ℕ) := Fin a → Fin b → EReal

/-- The product of two tables. -/
def mul {a b c : ℕ} (x : Tab a b) (w : Tab b c) : Tab a c := fun r j => ∑ k, x r k * w k j

/-- A table with its negative entries replaced by zero. -/
def relu {a b : ℕ} (x : Tab a b) : Tab a b := fun r j => max (x r j) 0

/-- A dense layer: the product and the bias, rectified. -/
def dense {a b c : ℕ} (x : Tab a b) (w : Tab b c) (bias : Fin c → EReal) : Tab a c := relu fun r j => mul x w r j + bias j

/-- The last layer of the perceptron: the product and the bias, under the hyperbolic tangent. -/
def out {a b c : ℕ} (x : Tab a b) (w : Tab b c) (bias : Fin c → EReal) : Tab a c := fun r j => Ideal.tanh (mul x w r j + bias j)

/-- The perceptron: three dense layers and the last one. -/
def net {n a b c d e : ℕ} (x : Tab n a) (w0 : Tab a b) (b0 : Fin b → EReal) (w1 : Tab b c) (b1 : Fin c → EReal) (w2 : Tab c d) (b2 : Fin d → EReal)
    (w3 : Tab d e) (b3 : Fin e → EReal) : Tab n e :=
  out (dense (dense (dense x w0 b0) w1 b1) w2 b2) w3 b3

/-- The two graph layers. -/
def graph {n a b c : ℕ} (adj : Tab n n) (x : Tab n a) (w1 : Tab a b) (w2 : Tab b c) : Tab n c := mul adj (mul (relu (mul adj (mul x w1))) w2)

/-- The products of a table's columns. -/
def gram {n a : ℕ} (h : Tab n a) : Tab a a := fun i j => ∑ r, h r i * h r j

/-- A table of weights under zero rows, met by a table wide enough: the zero rows add nothing. -/
theorem mul_padded {n c : ℕ} {a b : ℕ} (x : Tab n (a + b)) (x' : Tab n a) (w : Tab (a + b) c) (w' : Tab a c) (hx : ∀ r k, x r (Fin.castAdd b k) = x' r k)
    (hw : ∀ k j, w (Fin.castAdd b k) j = w' k j) (h0 : ∀ k j, w (Fin.natAdd a k) j = 0) : mul x w = mul x' w' := by
  funext r j
  unfold mul
  rw [Fin.sum_univ_add]
  simp only [hx, hw, h0, mul_zero, Finset.sum_const_zero, add_zero]

end Cert.Model

end
-- ==== Proof.PayMlp.lean ====
/- What the perceptron's stored values are, entry by entry. -/
module

public import proofs.«01_k».proof.Proof.Model
public import proofs.«01_k».proof.Proof.Gen.KernelIdeal.Skeleton

@[expose] public section

set_option maxRecDepth 16384

noncomputable section

namespace Cert.KernelIdeal.Hand

open Idealize.ShloMosaic Cert.KernelIdeal.Gen Cert.Model

theorem pay54_apply (x : Vec Ideal S4096x128 .f32) (w : Vec Ideal S128x64 .f32) (r : Fin 4096) (j : Fin 64) :
    k0_pay54 x w (ix2 r j) = mul (fun r k => x (ix2 r k)) (fun k j => w (ix2 k j)) r j := by
  unfold k0_pay54
  pointwise []
  rfl

theorem pay1_apply (x : Vec Ideal S2048x128 .f32) (w0 : Vec Ideal S128x1024 .f32) (b0 : Vec Ideal S1x1024 .f32) (w1 : Vec Ideal S1024x512 .f32)
    (b1 : Vec Ideal S1x512 .f32) (w2 : Vec Ideal S512x64 .f32) (b2 : Vec Ideal S1x64 .f32) (r : Fin 2048) (j : Fin 64) :
    k0_pay1 x w0 b0 w1 b1 w2 b2 (ix2 r j) =
      dense (dense (dense (fun r k => x (ix2 r k)) (fun k j => w0 (ix2 k j)) (fun j => b0 (ix2 0 j))) (fun k j => w1 (ix2 k j)) (fun j => b1 (ix2 0 j)))
        (fun k j => w2 (ix2 k j)) (fun j => b2 (ix2 0 j)) r j := by
  unfold k0_pay1
  pointwise []
  rfl

theorem pay57_apply (v : FVec Ideal S2048x64 .bf16) (w : FVec Ideal S64x10 .bf16) (b : Vec Ideal S1x10 .f32) (i j : Fin 10) :
    k0_pay57 v w b (ix2 i j) = ∑ r : Fin 2048, k0_pay55 v w b (ix2 r i) * k0_pay55 v w b (ix2 r j) := by
  unfold k0_pay57
  pointwise []

theorem pay62_apply (x : Vec Ideal S512x4096 .f32) (y : Vec Ideal S4096x64 .bf16) (w : Vec Ideal S64x10 .f32) (i : Fin 512) (j : Fin 10) :
    k0_pay62 x y w (ix2 i j) = mul (relu (mul (fun r k => x (ix2 r k)) (fun r k => y (ix2 r k)))) (fun r k => w (ix2 r k)) i j := by
  unfold k0_pay62 k0_pay60
  pointwise []
  rfl

theorem pay55_apply (v : FVec Ideal S2048x64 .bf16) (w : Vec Ideal S64x10 .f32) (b : Vec Ideal S1x10 .f32) (r : Fin 2048) (j : Fin 10) :
    k0_pay55 v (k0_pay2 w) b (ix2 r j) = out (fun r k => v (ix2 r k)) (fun r k => w (ix2 r k)) (fun j => b (ix2 0 j)) r j := by
  unfold k0_pay55 k0_pay2
  pointwise []
  rfl

theorem pay56_apply (v : FVec Ideal S2048x64 .bf16) (w : Vec Ideal S64x10 .f32) (b : Vec Ideal S1x10 .f32) (r : Fin 2048) (j : Fin 10) :
    k0_pay56 v (k0_pay2 w) b (ix2 r j) = out (fun r k => v (ix2 r k)) (fun r k => w (ix2 r k)) (fun j => b (ix2 0 j)) r j := by
  unfold k0_pay56
  pointwise []
  exact pay55_apply v w b r j

theorem pay58_apply (v : FVec Ideal S2048x64 .bf16) (w : FVec Ideal S64x10 .bf16) (b : Vec Ideal S1x10 .f32) :
    k0_pay58 v w b = k0_pay57 v w b := by
  unfold k0_pay58
  funext i
  pointwise []

theorem pay59_apply (v : FVec Ideal S2048x64 .bf16) (w : FVec Ideal S64x10 .bf16) (b : Vec Ideal S1x10 .f32) (g : Vec Ideal S10x10 .f32) (i j : Fin 10) :
    k0_pay59 v w b g (ix2 i j) = g (ix2 i j) + k0_pay57 v w b (ix2 i j) := by
  unfold k0_pay59
  pointwise []

theorem pay61_apply (x : Vec Ideal S512x4096 .f32) (i : Fin 512) (j : Fin 4096) : k0_pay61 x (ix2 i j) = x (ix2 i j) := by
  unfold k0_pay61 k0_pay60
  pointwise []

theorem pay64_apply (h : Vec Ideal S1024x10 .bf16) (w : Vec Ideal S10x10 .f32) (i : Fin 1024) (j : Fin 10) :
    k0_pay64 h w (ix2 i j) = 64 * mul (fun r k => h (ix2 r k)) (fun r k => w (ix2 r k)) i j := by
  unfold k0_pay64
  pointwise []
  rw [show Ideal.ofBits FTy.f32 1115684864#32 = (64 : EReal) by simp [Ideal.ofBits, Ideal.ieee, -EReal.coe_mul]; norm_num; rfl]
  rfl

theorem pay65_apply (h : Vec Ideal S1024x4096 .bf16) (w : Vec Ideal S4096x10 .bf16) (i : Fin 1024) (j : Fin 10) :
    k0_pay65 h w (ix2 i j) = mul (fun r k => h (ix2 r k)) (fun r k => w (ix2 r k)) i j := by
  unfold k0_pay65
  pointwise []
  rfl

end Cert.KernelIdeal.Hand

end
-- ==== Proof.Values.lean ====
/- What the scratch buffers hold over the extended reals: the perceptron's output, the adjacency matrix, the graph layer's rows and the Gram
   matrix, as tables of the arguments. -/
module

public import proofs.«01_k».proof.Proof.Blocks
public import proofs.«01_k».proof.Proof.PayMlp

@[expose] public section

set_option maxRecDepth 16384

noncomputable section

namespace Cert.KernelIdeal.Hand

open Idealize.ShloMosaic Idealize.ShloMosaic.TcCoe Cert.KernelIdeal.Gen Cert.Model Cert.Rows

variable (m : (ℓ : Loc nD τ sig) → Buf (Elt Ideal) ℓ) (c : Dev nD)

/-! ## The arguments as tables -/

def tX : Tab 4096 128 := fun r k => m ((c : Thread nD τ).loc main_arg0) (ix2 r k)
def tAdj : Tab 4096 4096 := fun r k => m ((c : Thread nD τ).loc main_arg1) (ix2 r k)
def tW0 : Tab 128 1024 := fun r k => m ((c : Thread nD τ).loc main_arg2) (ix2 r k)
def tB0 : Fin 1024 → EReal := fun k => m ((c : Thread nD τ).loc main_arg3) (ix1 k)
def tW1 : Tab 1024 512 := fun r k => m ((c : Thread nD τ).loc main_arg4) (ix2 r k)
def tB1 : Fin 512 → EReal := fun k => m ((c : Thread nD τ).loc main_arg5) (ix1 k)
def tW2 : Tab 512 50 := fun r k => m ((c : Thread nD τ).loc main_arg6) (ix2 r k)
def tB2 : Fin 50 → EReal := fun k => m ((c : Thread nD τ).loc main_arg7) (ix1 k)
def tW3 : Tab 50 10 := fun r k => m ((c : Thread nD τ).loc main_arg8) (ix2 r k)
def tB3 : Fin 10 → EReal := fun k => m ((c : Thread nD τ).loc main_arg9) (ix1 k)
def tG1 : Tab 128 64 := fun r k => m ((c : Thread nD τ).loc main_arg10) (ix2 r k)
def tG2 : Tab 64 10 := fun r k => m ((c : Thread nD τ).loc main_arg11) (ix2 r k)

/-- The perceptron's output. -/
def tH : Tab 4096 10 := net (tX m c) (tW0 m c) (tB0 m c) (tW1 m c) (tB1 m c) (tW2 m c) (tB2 m c) (tW3 m c) (tB3 m c)

/-! ## The perceptron -/

theorem halfPt_val (k : ℕ) (hk : k ≤ 1) : (halfPt k).val = 4 * k := by show min (4 * min k 1) 15 = _; omega

/-- The last layer over the third, at a row of the half the point takes. -/
theorem half_apply (k : ℕ) (hk : k ≤ 1) (r : Fin 2048) (j : Fin 10) :
    out (fun r k' => mlpA m c (halfPt k) (halfPt_half k) (ix2 r k')) (fun r j => iblk m c 8 (halfPt k) (ix2 r j)) (fun j => iblk m c 9 (halfPt k) (ix2 0 j)) r j
      = tH m c ⟨2048 * k + r.val, by omega⟩ j := by
  have hrow : ∀ k' : Fin 64, mlpA m c (halfPt k) (halfPt_half k) (ix2 r k')
      = dense (dense (dense (tX m c) (tW0 m c) (tB0 m c)) (tW1 m c) (tB1 m c)) (fun r j => iblk m c 6 (halfPt k) (ix2 r j)) (fun j => iblk m c 7 (halfPt k) (ix2 0 j))
          ⟨2048 * k + r.val, by omega⟩ k' := fun k' => by
    unfold mlpA mlp3
    rw [pay1_apply]
    have hw : ∀ (r : Fin 2048) (k' : Fin 128), VecWindow.window (s := S4096x128) (iblk m c 0 (halfPt k)) (k0_off1 (grid0.coords (halfPt k))) S2048x128.size
        (k0_off1_inb (grid0.coords (halfPt k)) (halfPt_half k)) (ix2 r k') = tX m c ⟨2048 * k + r.val, by omega⟩ k' := fun r k' => by
      refine (window_rows (B := 2048) (iblk m c 0 (halfPt k)) _ (2048 * k) ((off1_eq (halfPt k) (by rw [halfPt_val k hk]; omega)).trans
        (by rw [halfPt_val k hk]; congr 2; omega)) _ r k' (by omega)).trans (blk0 m c (halfPt k) _ k')
    simp only [hw, blk2, blk3, blk4, blk5]
    rfl
  have e : mul (fun (_ : Fin 2048) k' => dense (dense (dense (tX m c) (tW0 m c) (tB0 m c)) (tW1 m c) (tB1 m c)) (fun r j => iblk m c 6 (halfPt k) (ix2 r j))
        (fun j => iblk m c 7 (halfPt k) (ix2 0 j)) ⟨2048 * k + r.val, by omega⟩ k') (fun r j => iblk m c 8 (halfPt k) (ix2 r j))
      = mul (fun (_ : Fin 2048) k' => dense (dense (dense (tX m c) (tW0 m c) (tB0 m c)) (tW1 m c) (tB1 m c)) (tW2 m c) (tB2 m c) ⟨2048 * k + r.val, by omega⟩ k') (tW3 m c) := by
    refine mul_padded (a := 50) (b := 14) _ _ _ _ (fun _ k' => ?_) (fun k' j => ?_) (fun k' j => ?_)
    · show max (mul _ _ _ _ + _) 0 = max (mul _ _ _ _ + _) 0
      unfold mul
      simp only [blk6, blk7]
      have : (Fin.castAdd 14 k').val < 50 := k'.isLt
      simp only [dif_pos this]
      rfl
    · rw [blk8, dif_pos (show (Fin.castAdd 14 k').val < 50 from k'.isLt)]; rfl
    · rw [blk8, dif_neg (show ¬(Fin.natAdd 50 k').val < 50 from by rw [Fin.natAdd]; simp)]
  have e1 : out (fun r k' => mlpA m c (halfPt k) (halfPt_half k) (ix2 r k')) (fun r j => iblk m c 8 (halfPt k) (ix2 r j)) (fun j => iblk m c 9 (halfPt k) (ix2 0 j)) r j
      = Ideal.tanh (mul (fun (_ : Fin 2048) k' => dense (dense (dense (tX m c) (tW0 m c) (tB0 m c)) (tW1 m c) (tB1 m c)) (fun r j => iblk m c 6 (halfPt k) (ix2 r j))
        (fun j => iblk m c 7 (halfPt k) (ix2 0 j)) ⟨2048 * k + r.val, by omega⟩ k') (fun r j => iblk m c 8 (halfPt k) (ix2 r j)) r j + tB3 m c j) := by
    unfold out mul
    simp only [hrow, blk9]
    rfl
  rw [e1, e]
  rfl

/-- The scratch of the perceptron's output. -/
theorem hA_apply (r : Fin 4096) (j : Fin 10) : hA m c (ix2 r j) = tH m c r j := by
  have hk : r.val / 2048 ≤ 1 := by omega
  show k0_pay56 (mlpA m c (halfPt (r.val / 2048)) (halfPt_half _)) (k0_pay2 (iblk m c 8 (halfPt (r.val / 2048)))) (iblk m c 9 (halfPt (r.val / 2048)))
    (ix2 (⟨r.val % 2048, by omega⟩ : Fin 2048) j) = _
  rw [pay56_apply, half_apply m c _ hk]
  congr 1
  exact Fin.ext (by show 2048 * (r.val / 2048) + r.val % 2048 = r.val; omega)

/-- One half's share of the Gram matrix. -/
theorem share_apply (k : ℕ) (hk : k ≤ 1) (i j : Fin 10) :
    k0_pay57 (mlpA m c (halfPt k) (halfPt_half k)) (k0_pay2 (iblk m c 8 (halfPt k))) (iblk m c 9 (halfPt k)) (ix2 i j)
      = ∑ r : Fin 2048, tH m c ⟨2048 * k + r.val, by omega⟩ i * tH m c ⟨2048 * k + r.val, by omega⟩ j := by
  rw [pay57_apply]
  refine Finset.sum_congr rfl fun r _ => ?_
  rw [pay55_apply, pay55_apply, half_apply m c k hk, half_apply m c k hk]

/-- The scratch of the Gram matrix: the two halves' shares. -/
theorem g2A_apply (i j : Fin 10) : g2A m c (ix2 i j) = gram (tH m c) i j := by
  unfold g2A g1A
  rw [pay59_apply, pay58_apply, share_apply m c 0 (by omega), share_apply m c 1 (by omega)]
  unfold gram
  rw [Fin.sum_univ_two_halves 2048 2048 rfl (fun r : Fin 4096 => tH m c r i * tH m c r j)]
  simp only [Nat.mul_zero, Nat.zero_add, Nat.mul_one]

/-! ## The graph layers -/

theorem x1A_apply (r : Fin 4096) (j : Fin 64) : x1A m c (ix2 r j) = mul (tX m c) (tG1 m c) r j := by
  unfold x1A
  rw [pay54_apply]
  simp only [blk0, blk10]
  rfl

theorem rowPt (r : Fin 4096) : (pt (r.val / 512)).val = r.val / 512 := by show min (r.val / 512) 15 = _; omega

/-- The point's adjacency block at a row. -/
theorem adj_row (r : Fin 4096) (k : Fin 4096) : iblk m c 1 (pt (r.val / 512)) (ix2 (⟨r.val % 512, by omega⟩ : Fin 512) k) = tAdj m c r k := by
  rw [blk1 m c _ (by rw [rowPt]; omega)]
  unfold tAdj
  congr 2
  exact Fin.ext (by show 512 * (pt (r.val / 512)).val + r.val % 512 = r.val; rw [rowPt]; omega)

theorem abA_apply (r k : Fin 4096) : abA m c (ix2 r k) = tAdj m c r k := by
  show k0_pay61 (iblk m c 1 (pt (r.val / 512))) (ix2 (⟨r.val % 512, by omega⟩ : Fin 512) k) = _
  rw [pay61_apply, adj_row]

theorem yA_apply (r : Fin 4096) (j : Fin 10) : yA m c (ix2 r j) = mul (relu (mul (tAdj m c) (mul (tX m c) (tG1 m c)))) (tG2 m c) r j := by
  show k0_pay62 (iblk m c 1 (pt (r.val / 512))) (x1A m c) (iblk m c 11 (pt (r.val / 512))) (ix2 (⟨r.val % 512, by omega⟩ : Fin 512) j) = _
  rw [pay62_apply]
  unfold mul relu
  simp only [adj_row, x1A_apply, blk11]
  rfl

end Cert.KernelIdeal.Hand

end
-- ==== Proof.Results.lean ====
/- What the kernel's two result arrays hold when it returns, entry by entry over the extended reals. -/
module

public import proofs.«01_k».proof.Proof.Values
public import proofs.«01_k».proof.Proof.Launch

@[expose] public section

set_option maxRecDepth 16384

noncomputable section

namespace Cert.KernelIdeal.Hand

open Idealize.ShloMosaic Idealize.ShloMosaic.TcCoe Idealize.SL.Sem Cert.KernelIdeal.Gen Cert.Model Cert.Rows

variable (m : (ℓ : Loc nD τ sig) → Buf (Elt Ideal) ℓ) (ρ : Dev nD → PrngReg) (c : Dev nD)

/-- The first result: the perceptron's output by the inverted factor, times 64. -/
def orthoF : S4096x10.Idx → EReal := fun y => 64 * mul (tH m c) (fun r k => invOf (F := Ideal) (g2A m c) (ix2 r k)) (y 0) (y 1)

/-- The second result: the two graph layers. -/
def graphF : S4096x10.Idx → EReal := fun y => graph (tAdj m c) (tX m c) (tG1 m c) (tG2 m c) (y 0) (y 1)

/-! ## The rows a point of the second phase stores -/

theorem off5_eq : ∀ t : Fin cfg0.N, 8 ≤ t.val ∧ t.val < 12 → k0_off5 (grid0.coords t) = ![1024 * (t.val - 8), 0] :=
  (by decide +kernel : ∀ t : Fin grid0.N, 8 ≤ t.val ∧ t.val < 12 → k0_off5 (grid0.coords t) = ![1024 * (t.val - 8), 0])

theorem off6_eq : ∀ t : Fin cfg0.N, 8 ≤ t.val ∧ t.val < 12 → k0_off6 (grid0.coords t) = ![1024 * (t.val - 8), 0] :=
  (by decide +kernel : ∀ t : Fin grid0.N, 8 ≤ t.val ∧ t.val < 12 → k0_off6 (grid0.coords t) = ![1024 * (t.val - 8), 0])

theorem emit_range (t : ℕ) : 8 ≤ (emitPt t).val ∧ (emitPt t).val < 12 := by rw [emitPt_val]; omega

theorem orthoA_apply (t : ℕ) (i : Fin 1024) (j : Fin 10) :
    orthoA m c t (ix2 i j) = orthoF m c (ix2 (⟨1024 * ((emitPt t).val - 8) + i.val, by have := emit_range t; omega⟩ : Fin 4096) j) := by
  unfold orthoA orthoBlk
  rw [pay64_apply]
  unfold orthoF mul
  refine congrArg (64 * ·) (Finset.sum_congr rfl fun k _ => ?_)
  refine congrArg (· * _) ?_
  exact (window_rows (B := 1024) (hA m c) _ _ (off5_eq _ (emit_range t)) _ i k (by have := emit_range t; omega)).trans (hA_apply m c _ k)

theorem gA_apply (t : ℕ) (i : Fin 1024) (j : Fin 10) :
    gA m c t (ix2 i j) = graphF m c (ix2 (⟨1024 * ((emitPt t).val - 8) + i.val, by have := emit_range t; omega⟩ : Fin 4096) j) := by
  unfold gA gBlk
  rw [pay65_apply]
  unfold graphF graph
  show mul _ _ _ _ = mul (tAdj m c) _ _ _
  unfold mul
  refine Finset.sum_congr rfl fun k _ => ?_
  have e := (window_rows (B := 1024) (abA m c) _ _ (off6_eq _ (emit_range t)) (k0_off6_inb _ (emitPt_phaseB t)) i k (by have := emit_range t; omega)).trans (abA_apply m c _ k)
  exact congrArg₂ (· * ·) e (yA_apply m c k j)

/-! ## The arrays after the last point -/

theorem idx_out : ∀ t : Fin cfg0.N, win0_12.index t = ![min (max t.val 8) 11 - 8, 0] ∧ win0_13.index t = ![min (max t.val 8) 11 - 8, 0] :=
  (by decide +kernel : ∀ t : Fin grid0.N, win0_12.index t = ![min (max t.val 8) 11 - 8, 0] ∧ win0_13.index t = ![min (max t.val 8) 11 - 8, 0])

theorem final_ortho : (dats m 0 c).arrAt 12 cfg0.N = orthoF m c := by
  refine (dats m 0 c).arrAt_eq_of_covers 12 _ (by decide +kernel) fun t hf y => ?_
  blk_simp
  rw [after12]
  refine (congrArg (orthoA m c t.val) (eq_ix2 y)).trans ((orthoA_apply m c t.val (y 0) (y 1)).trans (congrArg (orthoF m c) ?_))
  simp only [emitPt_val]
  blk_ext [(idx_out t).1]

theorem final_graph : (dats m 0 c).arrAt 13 cfg0.N = graphF m c := by
  refine (dats m 0 c).arrAt_eq_of_covers 13 _ (by decide +kernel) fun t hf y => ?_
  blk_simp
  rw [after13]
  refine (congrArg (gA m c t.val) (eq_ix2 y)).trans ((gA_apply m c t.val (y 0) (y 1)).trans (congrArg (graphF m c) ?_))
  simp only [emitPt_val]
  blk_ext [(idx_out t).2]

/-- Every execution ends with the two results in place and the arguments unchanged. -/
theorem run_values : θ_run defs (onTc (τ := τ) (main (F := Ideal))) ⟨m, fun _ => 0, ρ⟩ (fun r => ∀ c : Dev nD,
      r.2.mem ((c.tc : Thread nD τ).loc main_v7_0) = orthoF m c ∧ r.2.mem ((c.tc : Thread nD τ).loc main_v7_1) = graphF m c) := by
  refine (θ_run defs _ _).mono (fun r h c => ?_) (run_main m ρ)
  obtain ⟨h12, h13⟩ := And.intro ((h.1 c).1 12) ((h.1 c).1 13)
  exact ⟨h12.trans (final_ortho m c), h13.trans (final_graph m c)⟩

end Cert.KernelIdeal.Hand

end
-- ==== Proof.Cholesky.lean ====
/- The Cholesky factor of a positive definite table, computed two ways: the kernel takes each finished column out of the whole table, the
   reference takes what the earlier columns explain out of the next column only. Over the reals both give the same factor. -/
module

public import proofs.«01_k».proof.Proof.Model

@[expose] public section

noncomputable section

namespace Cert.Model

open Idealize.ShloMosaic

/-- The column step `n` works on. -/
abbrev kth (n : ℕ) : Fin 10 := Fin.ofNat 10 n

theorem kth_val {n : ℕ} (h : n < 10) : (kth n).val = n := Nat.mod_eq_of_lt h

/-! ## Over the reals -/

/-- The table once `n` columns are taken out. -/
def restR (G : Fin 10 → Fin 10 → ℝ) : ℕ → Fin 10 → Fin 10 → ℝ
  | 0 => G
  | n + 1 => fun i j => restR G n i j
      - (if kth n ≤ i then restR G n i (kth n) * (Real.sqrt (restR G n (kth n) (kth n)))⁻¹ else 0)
        * (if kth n ≤ j then restR G n (kth n) j * (Real.sqrt (restR G n (kth n) (kth n)))⁻¹ else 0)

/-- Column `n` of the factor. -/
def colR (G : Fin 10 → Fin 10 → ℝ) (n : ℕ) (i : Fin 10) : ℝ :=
  if kth n ≤ i then restR G n i (kth n) * (Real.sqrt (restR G n (kth n) (kth n)))⁻¹ else 0

/-- The factor's first `n` columns. -/
def facR (G : Fin 10 → Fin 10 → ℝ) (n : ℕ) (i j : Fin 10) : ℝ := if j.val < n then colR G j.val i else 0

/-- The quadratic form of a table. -/
def form (A : Fin 10 → Fin 10 → ℝ) (x : Fin 10 → ℝ) : ℝ := ∑ i, ∑ j, x i * A i j * x j

/-- A table is symmetric and positive on every vector that starts at `n`. -/
def PosFrom (n : ℕ) (A : Fin 10 → Fin 10 → ℝ) : Prop :=
  (∀ i j, A i j = A j i) ∧ ∀ x : Fin 10 → ℝ, (∀ i, i.val < n → x i = 0) → x ≠ 0 → 0 < form A x

/-- The form of a table with a product of one vector's entries taken out. -/
theorem form_sub (A : Fin 10 → Fin 10 → ℝ) (c x : Fin 10 → ℝ) : form (fun i j => A i j - c i * c j) x = form A x - (∑ i, c i * x i) ^ 2 := by
  unfold form
  rw [pow_two, Finset.sum_mul_sum, ← Finset.sum_sub_distrib]
  refine Finset.sum_congr rfl fun i _ => ?_
  rw [← Finset.sum_sub_distrib]
  exact Finset.sum_congr rfl fun j _ => by ring

/-- The form along one more coordinate. -/
theorem form_add (A : Fin 10 → Fin 10 → ℝ) (hs : ∀ i j, A i j = A j i) (x : Fin 10 → ℝ) (k : Fin 10) (t : ℝ) :
    form A (fun i => x i + (if i = k then t else 0)) = form A x + 2 * t * (∑ i, A i k * x i) + t ^ 2 * A k k := by
  have e : ∀ i j, (x i + (if i = k then t else 0)) * A i j * (x j + (if j = k then t else 0))
      = x i * A i j * x j + (if j = k then t * (A i j * x i) else 0) + (if i = k then t * (A j i * x j) else 0)
        + (if i = k then (if j = k then t ^ 2 * A i j else 0) else 0) := fun i j => by
    rw [hs j i]
    split_ifs <;> ring
  unfold form
  simp only [e, Finset.sum_add_distrib, Finset.sum_ite_eq', Finset.mem_univ, if_true]
  have e2 : ∑ i, ∑ j, (if i = k then t * (A j i * x j) else 0) = t * ∑ i, A i k * x i := by
    rw [Finset.sum_comm]
    simp only [Finset.sum_ite_eq', Finset.mem_univ, if_true, Finset.mul_sum]
  have e3 : ∑ i, ∑ j, (if i = k then (if j = k then t ^ 2 * A i j else 0) else 0) = t ^ 2 * A k k := by
    rw [Finset.sum_comm]
    simp only [Finset.sum_ite_eq', Finset.mem_univ, if_true]
  rw [e2, e3, ← Finset.mul_sum]
  ring

/-- The pivot is positive. -/
theorem PosFrom.pivot {n : ℕ} {A : Fin 10 → Fin 10 → ℝ} (h : PosFrom n A) (hn : n < 10) : 0 < A (kth n) (kth n) := by
  have := h.2 (fun i => if i = kth n then 1 else 0) (fun i hi => if_neg fun e => by rw [e, kth_val hn] at hi; exact lt_irrefl _ hi)
    (fun e => by simpa using congrFun e (kth n))
  simpa [form] using this

/-- Taking a column out keeps the rest positive. -/
theorem PosFrom.step {n : ℕ} (G : Fin 10 → Fin 10 → ℝ) (h : PosFrom n (restR G n)) (hn : n < 10) : PosFrom (n + 1) (restR G (n + 1)) := by
  have hp := h.pivot hn
  set A := restR G n with hA
  set k := kth n with hk
  set c : Fin 10 → ℝ := fun i => if k ≤ i then A i k * (Real.sqrt (A k k))⁻¹ else 0 with hc
  have hrest : restR G (n + 1) = fun i j => A i j - c i * c j := by
    funext i j
    show A i j - _ * (if k ≤ j then A k j * (Real.sqrt (A k k))⁻¹ else 0) = _
    rw [h.1 k j]
  refine ⟨fun i j => ?_, fun x hx hx0 => ?_⟩
  · rw [hrest]
    show A i j - c i * c j = A j i - c j * c i
    rw [h.1 i j, mul_comm]
  · have hxk : x k = 0 := hx k (by rw [hk, kth_val hn]; omega)
    have hsum : ∑ i, c i * x i = (Real.sqrt (A k k))⁻¹ * ∑ i, A i k * x i := by
      rw [Finset.mul_sum]
      refine Finset.sum_congr rfl fun i _ => ?_
      by_cases hi : k ≤ i
      · show (if k ≤ i then _ else _) * _ = _
        rw [if_pos hi]
        ring
      · have : x i = 0 := hx i (by have := Fin.lt_def.1 (not_le.1 hi); rw [hk, kth_val hn] at this; omega)
        rw [this]
        ring
    have hsq : (Real.sqrt (A k k)) ^ 2 = A k k := Real.sq_sqrt hp.le
    have key := h.2 (fun i => x i + (if i = k then -(∑ i, A i k * x i) / A k k else 0)) (fun i hi => by
        have hik : i ≠ k := fun e => by rw [e, hk, kth_val hn] at hi; exact lt_irrefl _ hi
        show x i + (if i = k then _ else _) = 0
        rw [if_neg hik, hx i (by omega), add_zero]) (fun e => hx0 (by
        funext i
        by_cases hik : i = k
        · rw [hik, hxk]; rfl
        · have := congrFun e i
          simpa [hik] using this))
    rw [form_add A h.1] at key
    rw [hrest, form_sub, hsum, mul_pow, inv_pow, hsq]
    have : 2 * (-(∑ i, A i k * x i) / A k k) * (∑ i, A i k * x i) + (-(∑ i, A i k * x i) / A k k) ^ 2 * A k k
        = -((A k k)⁻¹ * (∑ i, A i k * x i) ^ 2) := by
      field_simp
      ring
    linarith

theorem posFrom_rest (G : Fin 10 → Fin 10 → ℝ) (h : PosFrom 0 G) : ∀ n ≤ 10, PosFrom n (restR G n)
  | 0, _ => h
  | n + 1, hn => (posFrom_rest G h n (by omega)).step G (by omega)

theorem pivot_pos (G : Fin 10 → Fin 10 → ℝ) (h : PosFrom 0 G) {n : ℕ} (hn : n < 10) : 0 < restR G n (kth n) (kth n) :=
  (posFrom_rest G h n hn.le).pivot hn

theorem kth_eq {n : ℕ} (hn : n < 10) (j : Fin 10) : j = kth n ↔ j.val = n := by rw [Fin.ext_iff, kth_val hn]

theorem facR_succ (G : Fin 10 → Fin 10 → ℝ) {n : ℕ} (hn : n < 10) (i j : Fin 10) :
    facR G (n + 1) i j = if j = kth n then colR G n i else facR G n i j := by
  unfold facR
  by_cases h : j.val = n
  · rw [if_pos ((kth_eq hn j).2 h), if_pos (by omega), h]
  · rw [if_neg fun e => h ((kth_eq hn j).1 e)]
    by_cases h2 : j.val < n
    · rw [if_pos h2, if_pos (by omega)]
    · rw [if_neg h2, if_neg (by omega)]

/-- What is left of the table is the table less the products of the columns taken out. -/
theorem restR_eq (G : Fin 10 → Fin 10 → ℝ) (h : PosFrom 0 G) : ∀ n ≤ 10, ∀ i j, restR G n i j = G i j - ∑ p, facR G n i p * facR G n j p
  | 0, _ => fun i j => by simp [restR, facR]
  | n + 1, hn => fun i j => by
    have hn' : n < 10 := by omega
    have hcol : ∀ j, (if kth n ≤ j then restR G n (kth n) j * (Real.sqrt (restR G n (kth n) (kth n)))⁻¹ else 0) = colR G n j := fun j => by
      unfold colR
      rw [(posFrom_rest G h n hn'.le).1 (kth n) j]
    have e : ∀ p, facR G (n + 1) i p * facR G (n + 1) j p = facR G n i p * facR G n j p + (if p = kth n then colR G n i * colR G n j else 0) := fun p => by
      rw [facR_succ G hn', facR_succ G hn']
      by_cases hp : p = kth n
      · rw [if_pos hp, if_pos hp, if_pos hp]
        unfold facR
        rw [if_neg (by rw [hp, kth_val hn']; omega), if_neg (by rw [hp, kth_val hn']; omega)]
        ring
      · rw [if_neg hp, if_neg hp, if_neg hp, add_zero]
    simp only [e, Finset.sum_add_distrib, Finset.sum_ite_eq', Finset.mem_univ, if_true]
    show restR G n i j - colR G n i * _ = _
    rw [hcol, restR_eq G h n (by omega)]
    ring

end Cert.Model

end
-- ==== Proof.Factors.lean ====
/- The two factorizations over the extended reals agree, and so do the two inversions of their factor. -/
module

public import proofs.«01_k».proof.Proof.Cholesky

@[expose] public section

noncomputable section

namespace Cert.Model

open Idealize.ShloMosaic

theorem coe_sum {n : ℕ} (f : Fin n → ℝ) : ((∑ i, f i : ℝ) : EReal) = ∑ i, (f i : EReal) := by
  exact map_sum (⟨⟨fun x : ℝ => (x : EReal), EReal.coe_zero⟩, EReal.coe_add⟩ : ℝ →+ EReal) f Finset.univ

theorem rsqrt_pos {p : ℝ} (hp : 0 < p) : Ideal.rsqrt (p : EReal) = (((Real.sqrt p)⁻¹ : ℝ) : EReal) := by
  rw [Ideal.rsqrt_coe, if_neg (not_lt.2 hp.le), if_neg hp.ne']

theorem div_sqrt_pos {p : ℝ} (hp : 0 < p) (s : ℝ) : Ideal.div (s : EReal) (Ideal.sqrt (p : EReal)) = ((s * (Real.sqrt p)⁻¹ : ℝ) : EReal) := by
  rw [Ideal.sqrt_coe, if_neg (not_lt.2 hp.le), Ideal.div_coe (Real.sqrt_pos.2 hp).ne', one_div, EReal.coe_mul]

theorem coe_ite (p : Prop) [Decidable p] (a : ℝ) : ((if p then a else 0 : ℝ) : EReal) = if p then (a : EReal) else 0 := by
  split_ifs <;> rfl

variable (G : Fin 10 → Fin 10 → ℝ) (hG : PosFrom 0 G)
include hG

/-- What is left of the table after `n` steps of the first way is real. -/
theorem rest_real (A : ℕ → Tab 10 10) (h0 : ∀ i j, A 0 i j = (G i j : EReal))
    (hs : ∀ n i j, A (n + 1) i j = A n i j - (if kth n ≤ i then A n i (kth n) * Ideal.rsqrt (A n (kth n) (kth n)) else (0 : EReal))
      * (if kth n ≤ j then A n (kth n) j * Ideal.rsqrt (A n (kth n) (kth n)) else (0 : EReal))) :
    ∀ n ≤ 10, ∀ i j, A n i j = (restR G n i j : EReal)
  | 0, _ => h0
  | n + 1, hn => fun i j => by
    have ih := rest_real A h0 hs n (by omega)
    rw [hs, ih, ih, ih, ih, rsqrt_pos (pivot_pos G hG (by omega)), ← EReal.coe_mul, ← EReal.coe_mul, ← coe_ite, ← coe_ite, ← EReal.coe_mul, ← EReal.coe_sub]
    rfl

/-- The factor the first way. -/
theorem first_way (A L : ℕ → Tab 10 10) (h0 : ∀ i j, A 0 i j = (G i j : EReal))
    (hs : ∀ n i j, A (n + 1) i j = A n i j - (if kth n ≤ i then A n i (kth n) * Ideal.rsqrt (A n (kth n) (kth n)) else (0 : EReal))
      * (if kth n ≤ j then A n (kth n) j * Ideal.rsqrt (A n (kth n) (kth n)) else (0 : EReal)))
    (hL0 : ∀ i j, L 0 i j = 0)
    (hL : ∀ n i j, L (n + 1) i j = L n i j
      + (if j = kth n then (if kth n ≤ i then A n i (kth n) * Ideal.rsqrt (A n (kth n) (kth n)) else (0 : EReal)) else (0 : EReal))) :
    ∀ n ≤ 10, ∀ i j, L n i j = (facR G n i j : EReal)
  | 0, _ => fun i j => by rw [hL0]; simp [facR]
  | n + 1, hn => fun i j => by
    have hn' : n < 10 := by omega
    have hr := rest_real G hG A h0 hs n hn'.le
    rw [hL, first_way A L h0 hs hL0 hL n hn'.le, hr, hr, rsqrt_pos (pivot_pos G hG hn'), ← EReal.coe_mul, ← coe_ite, facR_succ G hn']
    by_cases hj : j = kth n
    · rw [if_pos hj, if_pos hj]
      have : facR G n i j = 0 := if_neg (by rw [hj, kth_val hn']; omega)
      rw [this, EReal.coe_zero, zero_add]
      rfl
    · rw [if_neg hj, if_neg hj, add_zero]

/-- The factor the second way. -/
theorem second_way (L : ℕ → Tab 10 10) (T : Tab 10 10) (hT : ∀ i j, T i j = (G i j : EReal)) (hL0 : ∀ i j, L 0 i j = 0)
    (hL : ∀ n i j, L (n + 1) i j = if j = kth n then (if kth n ≤ i then Ideal.div (T i (kth n) - ∑ p, L n i p * L n (kth n) p)
      (Ideal.sqrt (T (kth n) (kth n) - ∑ p, L n (kth n) p * L n (kth n) p)) else (0 : EReal)) else L n i j) :
    ∀ n ≤ 10, ∀ i j, L n i j = (facR G n i j : EReal)
  | 0, _ => fun i j => by rw [hL0]; simp [facR]
  | n + 1, hn => fun i j => by
    have hn' : n < 10 := by omega
    have ih := second_way L T hT hL0 hL n hn'.le
    have hs : ∀ i, T i (kth n) - ∑ p, L n i p * L n (kth n) p = (restR G n i (kth n) : EReal) := fun i => by
      rw [restR_eq G hG n hn'.le, EReal.coe_sub, coe_sum, hT]
      simp only [ih, EReal.coe_mul]
    rw [hL, hs, hs, div_sqrt_pos (pivot_pos G hG hn'), ih, ← coe_ite, facR_succ G hn']
    by_cases hj : j = kth n
    · rw [if_pos hj, if_pos hj]; rfl
    · rw [if_neg hj, if_neg hj]

omit hG in
/-- Rows added to a table of zeros, and the same rows put in. -/
theorem rows_agree (L : Tab 10 10) (X Y : ℕ → Tab 10 10) (hX0 : ∀ i j, X 0 i j = 0) (hY0 : ∀ i j, Y 0 i j = 0)
    (hX : ∀ n i j, X (n + 1) i j = X n i j + (if i = kth n then Ideal.div ((if kth n = j then (1 : EReal) else (0 : EReal)) - ∑ p, L (kth n) p * X n p j)
      (L (kth n) (kth n)) else (0 : EReal)))
    (hY : ∀ n i j, Y (n + 1) i j = if i = kth n then Ideal.div ((if kth n = j then (1 : EReal) else (0 : EReal)) - ∑ p, L (kth n) p * Y n p j)
      (L (kth n) (kth n)) else Y n i j) :
    ∀ n ≤ 10, (∀ i j, X n i j = Y n i j) ∧ ∀ i j, n ≤ i.val → X n i j = 0
  | 0, _ => ⟨fun i j => by rw [hX0, hY0], fun i j _ => hX0 i j⟩
  | n + 1, hn => by
    have hn' : n < 10 := by omega
    obtain ⟨ih, iz⟩ := rows_agree L X Y hX0 hY0 hX hY n hn'.le
    refine ⟨fun i j => ?_, fun i j hi => ?_⟩
    · rw [hX, hY]
      simp only [ih]
      by_cases hi : i = kth n
      · rw [if_pos hi, if_pos hi, ← ih, iz i j (by rw [hi, kth_val hn']), zero_add]
      · rw [if_neg hi, if_neg hi, add_zero]
    · rw [hX, if_neg (fun e => by rw [e, kth_val hn'] at hi; omega), iz i j (by omega), add_zero]

end Cert.Model

end
-- ==== Proof.Steps.lean ====
/- The factorization and the inversion as the body spells them, one step at a time, and the body's text as a chain of these steps. Every
   statement is for any float values. -/
module

public import proofs.«01_k».proof.Proof.RunInvert

@[expose] public section

noncomputable section

namespace Cert.KernelIdeal.Hand

open Idealize.ShloMosaic Cert.KernelIdeal.Gen

variable {F : FTy → Type} [FloatOps F]

theorem slices_entry : ∀ k : Fin 10, S10x10.Slices (![k.val, k.val] : Fin 2 → Nat) S1x1 := by decide
theorem slices_col : ∀ k : Fin 10, S10x10.Slices (![0, k.val] : Fin 2 → Nat) S10x1 := by decide
theorem slices_row : ∀ k : Fin 10, S10x10.Slices (![k.val, 0] : Fin 2 → Nat) S1x10 := by decide

/-- The row numbers and the column numbers. -/
abbrev rowNo : IVec S10x10 32 := iota .tc S10x10 32 [0] iota_S10x10_d0_w32
abbrev colNo : IVec S10x10 32 := iota .tc S10x10 32 [1] iota_S10x10_d1_w32

/-- Zero. -/
abbrev zeroF : F .f32 := Scalar.ofBits .f32 0x00000000#32

/-! ## A step of the factorization -/

/-- The reciprocal root of pivot `k`. -/
def piv (k : Fin 10) (A : FVec F S10x10 .f32) : FVec F S1x1 .f32 := rsqrt (extractStridedSlice S1x1 ![k.val, k.val] A (slices_entry k))

/-- Column `k` times it. -/
def rawCol (k : Fin 10) (A : FVec F S10x10 .f32) : FVec F S10x1 .f32 :=
  mulf (extractStridedSlice S10x1 ![0, k.val] A (slices_col k)) (broadcastTo S10x1 (piv k A) broadcasts_S1x1_S10x1)

/-- Row `k` times it. -/
def rawRow (k : Fin 10) (A : FVec F S10x10 .f32) : FVec F S1x10 .f32 :=
  mulf (extractStridedSlice S1x10 ![k.val, 0] A (slices_row k)) (broadcastTo S1x10 (piv k A) broadcasts_S1x1_S1x10)

/-- The factor's column `k`: zero above the diagonal. -/
def lcol (k : Fin 10) (A : FVec F S10x10 .f32) : FVec F S10x1 .f32 :=
  select (cmpi .sge (extractStridedSlice S10x1 ![0, k.val] rowNo (slices_col k)) (broadcast S10x1 (BitVec.ofNat 32 k.val))) (rawCol k A) (broadcast S10x1 zeroF)

/-- The same column as a row. -/
def lrow (k : Fin 10) (A : FVec F S10x10 .f32) : FVec F S1x10 .f32 :=
  select (cmpi .sge (extractStridedSlice S1x10 ![k.val, 0] colNo (slices_row k)) (broadcast S1x10 (BitVec.ofNat 32 k.val))) (rawRow k A) (broadcast S1x10 zeroF)

/-- The matrix left once column `k` is taken out. -/
def stepA (k : Fin 10) (A : FVec F S10x10 .f32) : FVec F S10x10 .f32 :=
  subf A (mulf (broadcastTo S10x10 (lcol k A) broadcasts_S10x1_S10x10) (broadcastTo S10x10 (lrow k A) broadcasts_S1x10_S10x10))

/-- The factor with column `k` put in. -/
def stepL (k : Fin 10) (A L : FVec F S10x10 .f32) : FVec F S10x10 .f32 :=
  addf L (select (cmpi .eq colNo (broadcast S10x10 (BitVec.ofNat 32 k.val)))
    (broadcastTo S10x10 (shapeCast S10x1 (lcol k A) shapeCasts_S10x1_S10x1) broadcasts_S10x1_S10x10) (broadcast S10x10 zeroF))

/-! ## A step of the inversion -/

/-- Row `k` of the inverse, from the rows before it. -/
def xrow (k : Fin 10) (L X : FVec F S10x10 .f32) : FVec F S1x10 .f32 :=
  divf (subf (extractStridedSlice S1x10 ![k.val, 0] k0_pay4 (slices_row k))
      (extractStridedSlice S1x10 ![k.val, 0] (matmul dot_S10x10_S10x10_S10x10_1_0_0_1_n_n none L X (constant S10x10 .f32 0x00000000#32)) (slices_row k)))
    (broadcastTo S1x10 (extractStridedSlice S1x1 ![k.val, k.val] L (slices_entry k)) broadcasts_S1x1_S1x10)

/-- The inverse with row `k` put in. -/
def stepX (k : Fin 10) (L X : FVec F S10x10 .f32) : FVec F S10x10 .f32 :=
  addf X (select (cmpi .eq rowNo (broadcast S10x10 (BitVec.ofNat 32 k.val)))
    (broadcastTo S10x10 (shapeCast S1x10 (xrow k L X) shapeCasts_S1x10_S1x10) broadcasts_S1x10_S10x10) (broadcast S10x10 zeroF))

/-! ## The body's text, stretch by stretch -/

theorem text8 (s : Vec F S10x10 .f32) : k0_pay8 s = stepA 0 (k0_pay3 s) := rfl
theorem text7 (s : Vec F S10x10 .f32) : k0_pay7 s = stepL 0 (k0_pay3 s) (broadcast S10x10 zeroF) := rfl
theorem text9 (s : Vec F S10x10 .f32) : k0_pay9 s = piv 1 (k0_pay8 s) := rfl
theorem text12 (A : FVec F S10x10 .f32) : k0_pay12 colNo A (piv 1 A) k0_pay10 = stepA 1 A := rfl
theorem text14 (A : FVec F S10x10 .f32) : k0_pay14 rowNo colNo A (piv 1 A) k0_pay10 = lcol 2 (stepA 1 A) := rfl
theorem text15 (A : FVec F S10x10 .f32) : k0_pay15 colNo A (piv 1 A) k0_pay10 = lrow 2 (stepA 1 A) := rfl
theorem text16 (L A : FVec F S10x10 .f32) : k0_pay16 rowNo colNo L A (piv 1 A) k0_pay10 = stepL 2 (stepA 1 A) (stepL 1 A L) := rfl
theorem text20 (L A : FVec F S10x10 .f32) : k0_pay20 rowNo colNo A (lcol 2 A) (lrow 2 A) L = stepL 3 (stepA 2 A) L := rfl
theorem text21 (A : FVec F S10x10 .f32) : k0_pay21 rowNo colNo A (lcol 2 A) (lrow 2 A) = stepA 3 (stepA 2 A) := rfl
theorem text23 (A : FVec F S10x10 .f32) : k0_pay23 rowNo colNo A (lcol 2 A) (lrow 2 A) = lcol 4 (stepA 3 (stepA 2 A)) := rfl
theorem text25 (A : FVec F S10x10 .f32) : k0_pay25 rowNo colNo A (lcol 2 A) (lrow 2 A) = rawRow 4 (stepA 3 (stepA 2 A)) := rfl
theorem text30 (L A : FVec F S10x10 .f32) :
    k0_pay30 rowNo colNo L A (lcol 4 A) (k0_pay24 colNo) (rawRow 4 A) k0_pay26 = stepL 5 (stepA 4 A) (stepL 4 A L) := rfl
theorem text31 (A : FVec F S10x10 .f32) : k0_pay31 rowNo colNo A (lcol 4 A) (k0_pay24 colNo) (rawRow 4 A) k0_pay26 = stepA 5 (stepA 4 A) := rfl
theorem text32 (A : FVec F S10x10 .f32) : k0_pay32 rowNo colNo A (lcol 4 A) (k0_pay24 colNo) (rawRow 4 A) k0_pay26 = piv 6 (stepA 5 (stepA 4 A)) := rfl
theorem text34 (A : FVec F S10x10 .f32) : k0_pay34 rowNo colNo A (lcol 4 A) (k0_pay24 colNo) (rawRow 4 A) k0_pay26 = rawCol 6 (stepA 5 (stepA 4 A)) := rfl
theorem text40 (L A : FVec F S10x10 .f32) :
    k0_pay40 rowNo colNo L A (piv 6 A) (k0_pay33 rowNo) (rawCol 6 A) k0_pay35 = stepL 7 (stepA 6 A) (stepL 6 A L) := rfl
theorem text41 (A : FVec F S10x10 .f32) : k0_pay41 rowNo colNo A (piv 6 A) (k0_pay33 rowNo) (rawCol 6 A) k0_pay35 = stepA 7 (stepA 6 A) := rfl
theorem text42 (A : FVec F S10x10 .f32) : k0_pay42 rowNo colNo A (piv 6 A) (k0_pay33 rowNo) (rawCol 6 A) k0_pay35
    = extractStridedSlice S1x1 ![8, 8] (stepA 7 (stepA 6 A)) (slices_entry 8) := rfl
theorem text43 (L A : FVec F S10x10 .f32) : k0_pay43 rowNo colNo L A (extractStridedSlice S1x1 ![8, 8] A (slices_entry 8)) = stepL 9 (stepA 8 A) (stepL 8 A L) := rfl
theorem text45 (L A : FVec F S10x10 .f32) (v : FVec F S1x1 .f32) : k0_pay45 rowNo colNo L A v
    = matmul dot_S10x10_S10x10_S10x10_1_0_0_1_n_n none (k0_pay43 rowNo colNo L A v) k0_pay44 (constant S10x10 .f32 0x00000000#32) := rfl
theorem text47 (L : FVec F S10x10 .f32) : k0_pay47 rowNo k0_pay4 L k0_pay44
      (matmul dot_S10x10_S10x10_S10x10_1_0_0_1_n_n none L k0_pay44 (constant S10x10 .f32 0x00000000#32)) (k0_pay46 k0_pay4)
    = stepX 2 L (stepX 1 L (stepX 0 L k0_pay44)) := rfl
theorem text48 (L : FVec F S10x10 .f32) (W : FVec F S10x10 .f32) : k0_pay48 rowNo k0_pay4 L k0_pay44 W (k0_pay46 k0_pay4)
    = xrow 3 L (k0_pay47 rowNo k0_pay4 L k0_pay44 W (k0_pay46 k0_pay4)) := rfl
theorem text50 (L X : FVec F S10x10 .f32) : k0_pay50 rowNo k0_pay4 L X (xrow 3 L X) (k0_pay49 rowNo) zeroF
    = stepX 6 L (stepX 5 L (stepX 4 L (stepX 3 L X))) := rfl
theorem text52 (L X : FVec F S10x10 .f32) (r : FVec F S1x10 .f32) : k0_pay52 rowNo k0_pay4 L X r (k0_pay49 rowNo) zeroF
    = extractStridedSlice S1x10 ![7, 0] (matmul dot_S10x10_S10x10_S10x10_1_0_0_1_n_n none L (k0_pay50 rowNo k0_pay4 L X r (k0_pay49 rowNo) zeroF) (constant S10x10 .f32 0x00000000#32))
        (slices_row 7) := rfl
theorem text53 (L X : FVec F S10x10 .f32) : k0_pay53 rowNo k0_pay4 L X (k0_pay51 k0_pay4)
      (extractStridedSlice S1x10 ![7, 0] (matmul dot_S10x10_S10x10_S10x10_1_0_0_1_n_n none L X (constant S10x10 .f32 0x00000000#32)) (slices_row 7))
    = transpose S10x10 [1, 0] (stepX 9 L (stepX 8 L (stepX 7 L X))) transposes_S10x10_p1_0_S10x10 := rfl

/-! ## The chain -/

/-- The matrix once `n` columns are taken out. -/
def factA (A : FVec F S10x10 .f32) : ℕ → FVec F S10x10 .f32
  | 0 => A
  | n + 1 => stepA (Fin.ofNat 10 n) (factA A n)

/-- The factor's first `n` columns. -/
def factL (A : FVec F S10x10 .f32) : ℕ → FVec F S10x10 .f32
  | 0 => broadcast S10x10 zeroF
  | n + 1 => stepL (Fin.ofNat 10 n) (factA A n) (factL A n)

/-- The inverse's first `n` rows. -/
def invX (L : FVec F S10x10 .f32) : ℕ → FVec F S10x10 .f32
  | 0 => k0_pay44
  | n + 1 => stepX (Fin.ofNat 10 n) L (invX L n)

/-- The body's text is ten steps of each. -/
theorem invOf_eq (s : Vec F S10x10 .f32) :
    invOf s = k0_pay63 (transpose S10x10 [1, 0] (invX (factL (k0_pay3 s) 10) 10) transposes_S10x10_p1_0_S10x10) := by
  unfold invOf
  simp only [text9, text7, text8]
  rw [text12, text14, text15, text16, text20, text21, text23, text25, text30, text31, text32, text34, text40, text41, text42, text43, text45, text43,
    text48, text47, text52, text50, text53]
  rfl

end Cert.KernelIdeal.Hand

end
-- ==== Proof.StepValues.lean ====
/- One step of the factorization and one of the inversion, entry by entry, when the floats are extended reals. -/
module

public import proofs.«01_k».proof.Proof.Steps
public import Idealize.ShloMosaic.Lib.Pointwise

@[expose] public section

noncomputable section

namespace Cert.KernelIdeal.Hand

open Idealize.ShloMosaic Cert.KernelIdeal.Gen

theorem sge_mask : ∀ i k : Fin 10, IntOp.cmpi .sge (BitVec.ofNat 32 i.val) (BitVec.ofNat 32 k.val) = if k ≤ i then 1#1 else 0#1 := by decide
theorem eq_mask : ∀ i k : Fin 10, IntOp.cmpi .eq (BitVec.ofNat 32 i.val) (BitVec.ofNat 32 k.val) = if i = k then 1#1 else 0#1 := by decide

theorem select_sge (i k : Fin 10) (a b : EReal) :
    Scalar.select (IntOp.cmpi .sge (BitVec.ofNat 32 i.val) (BitVec.ofNat 32 k.val)) a b = if k ≤ i then a else b := by
  rw [sge_mask]
  by_cases h : k ≤ i <;> simp [h, Scalar.select]

theorem select_eq (i k : Fin 10) (a b : EReal) :
    Scalar.select (IntOp.cmpi .eq (BitVec.ofNat 32 i.val) (BitVec.ofNat 32 k.val)) a b = if i = k then a else b := by
  rw [eq_mask]
  by_cases h : i = k <;> simp [h, Scalar.select]

theorem eye_entry (i j : Fin 10) :
    (FloatOps.sitofp (F := Ideal) .f32 (BitVec.setWidth 32 (IntOp.cmpi .eq (BitVec.ofNat 32 i.val) (BitVec.ofNat 32 j.val))) : EReal)
      = if i = j then (1 : EReal) else (0 : EReal) := by
  rw [eq_mask]
  by_cases h : i = j
  · rw [if_pos h, if_pos h]
    show ((((BitVec.setWidth 32 1#1).toInt : ℝ)) : EReal) = 1
    rw [show (BitVec.setWidth 32 1#1).toInt = 1 by decide]
    simp
  · rw [if_neg h, if_neg h]
    show ((((BitVec.setWidth 32 0#1).toInt : ℝ)) : EReal) = 0
    rw [show (BitVec.setWidth 32 0#1).toInt = 0 by decide]
    simp

theorem lcol_apply (k : Fin 10) (A : S10x10.Idx → EReal) (i : Fin 10) :
    lcol (F := Ideal) k A (ix2 i 0) = if k ≤ i then A (ix2 i k) * Ideal.rsqrt (A (ix2 k k)) else (0 : EReal) := by
  unfold lcol rawCol piv
  pointwise []
  exact select_sge i k _ _

theorem lrow_apply (k : Fin 10) (A : S10x10.Idx → EReal) (j : Fin 10) :
    lrow (F := Ideal) k A (ix2 0 j) = if k ≤ j then A (ix2 k j) * Ideal.rsqrt (A (ix2 k k)) else (0 : EReal) := by
  unfold lrow rawRow piv
  pointwise []
  exact select_sge j k _ _

theorem stepA_apply (k : Fin 10) (A : S10x10.Idx → EReal) (i j : Fin 10) :
    stepA (F := Ideal) k A (ix2 i j) = A (ix2 i j) - (if k ≤ i then A (ix2 i k) * Ideal.rsqrt (A (ix2 k k)) else (0 : EReal))
      * (if k ≤ j then A (ix2 k j) * Ideal.rsqrt (A (ix2 k k)) else (0 : EReal)) := by
  rw [← lcol_apply, ← lrow_apply]
  unfold stepA
  pointwise []

theorem stepL_apply (k : Fin 10) (A L : S10x10.Idx → EReal) (i j : Fin 10) :
    stepL (F := Ideal) k A L (ix2 i j) = L (ix2 i j)
      + (if j = k then (if k ≤ i then A (ix2 i k) * Ideal.rsqrt (A (ix2 k k)) else (0 : EReal)) else (0 : EReal)) := by
  rw [← lcol_apply, ← select_eq]
  unfold stepL
  pointwise []

theorem eye_apply (i j : Fin 10) : (k0_pay4 (F := Ideal)) (ix2 i j) = if i = j then (1 : EReal) else (0 : EReal) := by
  unfold k0_pay4
  pointwise []
  exact eye_entry i j

theorem xrow_apply (k : Fin 10) (L X : S10x10.Idx → EReal) (j : Fin 10) :
    xrow (F := Ideal) k L X (ix2 0 j) = Ideal.div ((if k = j then (1 : EReal) else (0 : EReal)) - ∑ p : Fin 10, L (ix2 k p) * X (ix2 p j)) (L (ix2 k k)) := by
  rw [← eye_apply]
  unfold xrow
  pointwise []

theorem stepX_apply (k : Fin 10) (L X : S10x10.Idx → EReal) (i j : Fin 10) :
    stepX (F := Ideal) k L X (ix2 i j) = X (ix2 i j)
      + (if i = k then xrow (F := Ideal) k L X (ix2 0 j) else (0 : EReal)) := by
  rw [← select_eq]
  unfold stepX
  pointwise []

theorem eps_apply (s : S10x10.Idx → EReal) (i j : Fin 10) : (k0_pay3 (F := Ideal) s) (ix2 i j)
    = s (ix2 i j) + Ideal.ofBits .f32 0x358637BD#32 * (if i = j then (1 : EReal) else (0 : EReal)) := by
  rw [← eye_entry]
  unfold k0_pay3
  pointwise []

theorem zero_apply (i j : Fin 10) : (k0_pay44 (F := Ideal)) (ix2 i j) = (0 : EReal) := by
  unfold k0_pay44
  pointwise []

theorem inv_apply (s : S10x10.Idx → EReal) (i j : Fin 10) :
    invOf (F := Ideal) s (ix2 i j) = invX (F := Ideal) (factL (F := Ideal) (k0_pay3 (F := Ideal) s) 10) 10 (ix2 j i) := by
  rw [invOf_eq]
  unfold k0_pay63
  pointwise []
end Cert.KernelIdeal.Hand

end
-- ==== Proof.RefSteps.lean ====
/- The reference's factorization and inversion, one step at a time: each step as the program spells it, and its entries when the floats are
   extended reals. -/
module

public import proofs.«01_k».proof.Proof.Gen.ReferenceIdeal.Run
public import Idealize.ShloMosaic.Lib.Pointwise
public import Idealize.ShloMosaic.Lib.Routing.OpsOne

@[expose] public section

noncomputable section

namespace Cert.ReferenceIdeal.Hand

open Idealize.ShloMosaic Cert.ReferenceIdeal.Gen

/-! ## Rows of a vector put in a table -/

/-- Entry `e'` of a vector written along row `k` lands at row `k`, column `e'`. -/
theorem lands_row (idx : IVec S1 32) (k : Fin 10) (hidx : (idx (ix1 0)).toInt = (k.val : Int)) (e' i j : Fin 10) :
    scatter_S10x10_S1_S10_0_0_0_0.resultIdx? (ix1 e') idx = some (ix2 i j) ↔ i = k ∧ e' = j := by
  have hw0 : scatter_S10x10_S1_S10_0_0_0_0.window (ix1 e') 0 = 0 := rfl
  have hw1 : scatter_S10x10_S1_S10_0_0_0_0.window (ix1 e') 1 = e'.val := rfl
  have hs1 : scatter_S10x10_S1_S10_0_0_0_0.start (ix1 e') idx 1 = 0 := rfl
  have hs0 : scatter_S10x10_S1_S10_0_0_0_0.start (ix1 e') idx 0 = (k.val : Int) := by
    rw [← hidx]
    unfold ScatterDims.start
    rw [dif_pos (by decide)]
    congr 2
    funext b
    match b with
    | ⟨0, _⟩ => exact Subsingleton.elim (α := Fin 1) _ _
  refine (Routing.resultIdx?_ix2 _ _ _ _ _).trans ?_
  rw [hw0, hw1, hs0, hs1, Fin.ext_iff, Fin.ext_iff]
  omega

theorem scatter_row (x : S10x10.Idx → EReal) (idx : IVec S1 32) (u : S10.Idx → EReal) (k : Fin 10) (hidx : (idx (ix1 0)).toInt = (k.val : Int))
    (i j : Fin 10) : Host.scatter scatter_S10x10_S1_S10_0_0_0_0 (fun _ b => b) x idx u (ix2 i j) = if i = k then u (ix1 j) else x (ix2 i j) := by
  by_cases h : i = k
  · rw [if_pos h]
    refine Routing.scatter_set_hit _ x idx u _ _ (fun e he => ?_) (ix1 j) ((lands_row idx k hidx j i j).2 ⟨h, rfl⟩)
    rw [eq_ix1 e] at he ⊢
    rw [((lands_row idx k hidx _ i j).1 he).2]
  · rw [if_neg h]
    refine Routing.scatter_set_miss _ x idx u _ fun e he => h ?_
    rw [eq_ix1 e] at he
    exact ((lands_row idx k hidx _ i j).1 he).1

theorem scatter_col (x : S10x10.Idx → EReal) (idx : IVec S1 32) (u : S10.Idx → EReal) (k : Fin 10) (hidx : (idx (ix1 0)).toInt = (k.val : Int))
    (i j : Fin 10) : Host.scatter scatter_S10x10_S1_S10_0_1_1_0 (fun _ b => b) x idx u (ix2 i j) = if j = k then u (ix1 i) else x (ix2 i j) := by
  have lands := fun e' => Routing.lands_col scatter_S10x10_S1_S10_0_1_1_0 rfl rfl idx k hidx e' i j
  by_cases h : j = k
  · rw [if_pos h]
    refine Routing.scatter_set_hit _ x idx u _ _ (fun e he => ?_) (ix1 i) ((lands i).2 ⟨rfl, h⟩)
    rw [eq_ix1 e] at he ⊢
    rw [((lands _).1 he).1]
  · rw [if_neg h]
    refine Routing.scatter_set_miss _ x idx u _ fun e he => h ?_
    rw [eq_ix1 e] at he
    exact ((lands _).1 he).2

section Steps
variable {F : FTy → Type} [FloatOps F]

theorem slices_col : ∀ k : Fin 10, S10x10.Slices (![0, k.val] : Fin 2 → Nat) S10x1 := by decide
theorem slices_row : ∀ k : Fin 10, S10x10.Slices (![k.val, 0] : Fin 2 → Nat) S1x10 := by decide
theorem slices_entry : ∀ k : Fin 10, S10x10.Slices (![k.val, k.val] : Fin 2 → Nat) S1x1 := by decide
theorem slices_one : ∀ k : Fin 10, S10.Slices (![k.val] : Fin 1 → Nat) S1 := by decide

/-- The number `k` as a scalar. -/
abbrev word (k : Fin 10) : IVec S_ 32 := constantI S_ 32 (BitVec.ofNat 32 k.val)

/-- Column `k` of the matrix less the part the earlier columns explain. -/
def colS (k : Fin 10) (G L : FVec F S10x10 .f32) : FVec F S10 .f32 :=
  subf (shapeCast _ (extractStridedSlice S10x1 ![0, k.val] G (slices_col k)) shapeCasts_S10x1_S10)
    (Host.dotGeneral dot_S10x10_S10_S10_1_0_0_n_n_n none L (shapeCast _ (extractStridedSlice S1x10 ![k.val, 0] L (slices_row k)) shapeCasts_S1x10_S10))

/-- It over the root of its pivot, zero above the diagonal. -/
def col (k : Fin 10) (s : FVec F S10 .f32) : FVec F S10 .f32 :=
  select (cmpi .sge (iotaInDim S10 32 0) (broadcastInDim S10 ![] bcast_S_S10 (word k)))
    (Host.divf s (broadcastInDim S10 ![] bcast_S_S10 (Host.sqrt (shapeCast _ (extractStridedSlice S1 ![k.val] s (slices_one k)) shapeCasts_S1_S_))))
    (broadcastInDim S10 ![] bcast_S_S10 (id (constant S_ .f32 0x00000000#32)))

/-- The factor with column `k` put in. -/
def setL (k : Fin 10) (L : FVec F S10x10 .f32) (s : FVec F S10 .f32) : FVec F S10x10 .f32 :=
  Host.scatter scatter_S10x10_S1_S10_0_1_1_0 (fun _ b => b) L (broadcastInDim S1 ![] bcast_S_S1 (word k)) (col k s)

/-- The unit matrix. -/
def eye : FVec F S10x10 .f32 :=
  uitofp .f32 (cmpi .eq (addi (iotaInDim S10x10 32 0) (broadcastInDim S10x10 ![] bcast_S_S10x10 (constantI S_ 32 0#32))) (iotaInDim S10x10 32 1))

/-- Row `k` of the inverse, from the rows before it. -/
def row (k : Fin 10) (L X : FVec F S10x10 .f32) : FVec F S10 .f32 :=
  Host.divf (subf (shapeCast _ (extractStridedSlice S1x10 ![k.val, 0] eye (slices_row k)) shapeCasts_S1x10_S10)
      (Host.dotGeneral dot_S10_S10x10_S10_0_0_n_1_n_n none (shapeCast _ (extractStridedSlice S1x10 ![k.val, 0] L (slices_row k)) shapeCasts_S1x10_S10) X))
    (broadcastInDim S10 ![] bcast_S_S10 (shapeCast _ (extractStridedSlice S1x1 ![k.val, k.val] L (slices_entry k)) shapeCasts_S1x1_S_))

/-- The inverse with row `k` put in. -/
def setX (k : Fin 10) (L X : FVec F S10x10 .f32) : FVec F S10x10 .f32 :=
  Host.scatter scatter_S10x10_S1_S10_0_0_0_0 (fun _ b => b) X (broadcastInDim S1 ![] bcast_S_S1 (word k)) (row k L X)

end Steps

/-! ## The program's text is ten steps of each -/

section Chain
variable {F : FTy → Type} [FloatOps F]

/-- The factor's first `n` columns, put into the table `Z`. -/
def refL (G Z : FVec F S10x10 .f32) : ℕ → FVec F S10x10 .f32
  | 0 => Z
  | n + 1 => setL (Fin.ofNat 10 n) (refL G Z n) (colS (Fin.ofNat 10 n) G (refL G Z n))

/-- The inverse's first `n` rows, put into the table `Z`. -/
def refX (L Z : FVec F S10x10 .f32) : ℕ → FVec F S10x10 .f32
  | 0 => Z
  | n + 1 => setX (Fin.ofNat 10 n) L (refX L Z n)

open Value

theorem factor_text (V : Valuation τ sig (Elt F)) : res_main_v195 V = refL (res_main_v33 V) (res_main_v35 V) 10 := rfl

theorem inverse_text (V : Valuation τ sig (Elt F)) : res_main_v311 V = refX (res_main_v195 V) (res_main_v197 V) 9 := rfl

end Chain

theorem word_toInt : ∀ k : Fin 10, (BitVec.ofNat 32 k.val).toInt = (k.val : Int) := by decide
theorem sge_mask : ∀ i k : Fin 10, IntOp.cmpi .sge (BitVec.ofNat 32 i.val) (BitVec.ofNat 32 k.val) = if k ≤ i then 1#1 else 0#1 := by decide

theorem select_sge (i k : Fin 10) (a b : EReal) :
    Scalar.select (IntOp.cmpi .sge (BitVec.ofNat 32 i.val) (BitVec.ofNat 32 k.val)) a b = if k ≤ i then a else b := by
  rw [sge_mask]
  by_cases h : k ≤ i <;> simp [h, Scalar.select]

theorem colS_apply (k : Fin 10) (G L : S10x10.Idx → EReal) (i : Fin 10) :
    colS (F := Ideal) k G L (ix1 i) = G (ix2 i k) - ∑ p : Fin 10, L (ix2 i p) * L (ix2 k p) := by
  unfold colS
  pointwise []

theorem col_apply (k : Fin 10) (s : S10.Idx → EReal) (i : Fin 10) :
    col (F := Ideal) k s (ix1 i) = if k ≤ i then Ideal.div (s (ix1 i)) (Ideal.sqrt (s (ix1 k))) else (0 : EReal) := by
  rw [← select_sge]
  unfold col
  pointwise []
  exact congrArg (Scalar.select _ _) Ideal.ofBits_zero_f32

theorem setL_apply (k : Fin 10) (L : S10x10.Idx → EReal) (s : S10.Idx → EReal) (i j : Fin 10) :
    setL (F := Ideal) k L s (ix2 i j) = if j = k then (if k ≤ i then Ideal.div (s (ix1 i)) (Ideal.sqrt (s (ix1 k))) else (0 : EReal)) else L (ix2 i j) := by
  rw [← col_apply]
  exact scatter_col L _ _ k (word_toInt k) i j

theorem eye_entry : ∀ i j : Fin 10, IntOp.cmpi .eq (IntOp.addi (BitVec.ofNat 32 i.val) 0#32) (BitVec.ofNat 32 j.val) = if i = j then 1#1 else 0#1 := by decide

theorem eye_value (i j : Fin 10) :
    (FloatOps.uitofp (F := Ideal) .f32 (IntOp.cmpi .eq (IntOp.addi (BitVec.ofNat 32 i.val) 0#32) (BitVec.ofNat 32 j.val)) : EReal)
      = if i = j then (1 : EReal) else (0 : EReal) := by
  rw [eye_entry]
  by_cases h : i = j
  · rw [if_pos h, if_pos h]
    show ((((1#1).toNat : ℝ)) : EReal) = 1
    simp
  · rw [if_neg h, if_neg h]
    show ((((0#1).toNat : ℝ)) : EReal) = 0
    simp

theorem eye_apply (i j : Fin 10) : (eye (F := Ideal)) (ix2 i j) = if i = j then (1 : EReal) else (0 : EReal) := by
  unfold eye
  pointwise []
  exact eye_value i j

theorem row_apply (k : Fin 10) (L X : S10x10.Idx → EReal) (j : Fin 10) :
    row (F := Ideal) k L X (ix1 j) = Ideal.div ((if k = j then (1 : EReal) else (0 : EReal)) - ∑ p : Fin 10, L (ix2 k p) * X (ix2 p j)) (L (ix2 k k)) := by
  rw [← eye_apply]
  unfold row
  pointwise []

theorem setX_apply (k : Fin 10) (L X : S10x10.Idx → EReal) (i j : Fin 10) :
    setX (F := Ideal) k L X (ix2 i j)
      = if i = k then Ideal.div ((if k = j then (1 : EReal) else (0 : EReal)) - ∑ p : Fin 10, L (ix2 k p) * X (ix2 p j)) (L (ix2 k k)) else X (ix2 i j) := by
  rw [← row_apply]
  exact scatter_row X _ _ k (word_toInt k) i j

end Cert.ReferenceIdeal.Hand

end
-- ==== Proof.RefValues.lean ====
/- What the reference returns over the extended reals, entry by entry, as tables of its arguments. -/
module

public import proofs.«01_k».proof.Proof.RefSteps
public import proofs.«01_k».proof.Proof.Model

@[expose] public section

noncomputable section

namespace Cert.ReferenceIdeal.Hand

open Idealize.ShloMosaic Cert.ReferenceIdeal.Gen Cert.Model

section Text
variable {F : FTy → Type} [FloatOps F]

/-- The four layers of the perceptron as the program spells them. -/
def lay1 (x : FVec F S4096x128 .f32) (w : FVec F S128x1024 .f32) (b : FVec F S1024 .f32) : FVec F S4096x1024 .f32 :=
  maximumf (addf (Host.dotGeneral dot_S4096x128_S128x1024_S4096x1024_1_0_0_1_n_n none x w)
    (broadcastInDim S4096x1024 ![0, 1] bcast_S1x1024_S4096x1024_0_1 (broadcastInDim S1x1024 ![1] bcast_S1024_S1x1024_1 b)))
    (broadcastInDim S4096x1024 ![] bcast_S_S4096x1024 (constant S_ .f32 0x00000000#32))
def lay2 (x : FVec F S4096x1024 .f32) (w : FVec F S1024x512 .f32) (b : FVec F S512 .f32) : FVec F S4096x512 .f32 :=
  maximumf (addf (Host.dotGeneral dot_S4096x1024_S1024x512_S4096x512_1_0_0_1_n_n none x w)
    (broadcastInDim S4096x512 ![0, 1] bcast_S1x512_S4096x512_0_1 (broadcastInDim S1x512 ![1] bcast_S512_S1x512_1 b)))
    (broadcastInDim S4096x512 ![] bcast_S_S4096x512 (constant S_ .f32 0x00000000#32))
def lay3 (x : FVec F S4096x512 .f32) (w : FVec F S512x50 .f32) (b : FVec F S50 .f32) : FVec F S4096x50 .f32 :=
  maximumf (addf (Host.dotGeneral dot_S4096x512_S512x50_S4096x50_1_0_0_1_n_n none x w)
    (broadcastInDim S4096x50 ![0, 1] bcast_S1x50_S4096x50_0_1 (broadcastInDim S1x50 ![1] bcast_S50_S1x50_1 b)))
    (broadcastInDim S4096x50 ![] bcast_S_S4096x50 (constant S_ .f32 0x00000000#32))
def lay4 (x : FVec F S4096x50 .f32) (w : FVec F S50x10 .f32) (b : FVec F S10 .f32) : FVec F S4096x10 .f32 :=
  Host.tanh (addf (Host.dotGeneral dot_S4096x50_S50x10_S4096x10_1_0_0_1_n_n none x w)
    (broadcastInDim S4096x10 ![0, 1] bcast_S1x10_S4096x10_0_1 (broadcastInDim S1x10 ![1] bcast_S10_S1x10_1 b)))

/-- The products of the columns, with a little added along the diagonal. -/
def gramV (h : FVec F S4096x10 .f32) : FVec F S10x10 .f32 :=
  addf (Host.dotGeneral dot_S10x4096_S4096x10_S10x10_1_0_0_1_n_n none (transpose S10x4096 [1, 0] h transposes_S4096x10_S10x4096_1_0) h)
    (mulf (broadcastInDim S10x10 ![] bcast_S_S10x10 (constant S_ .f32 0x358637BD#32)) eye)

/-- The first result from the perceptron's output and the inverse. -/
def orthoV (h : FVec F S4096x10 .f32) (X : FVec F S10x10 .f32) : FVec F S4096x10 .f32 :=
  mulf (broadcastInDim S4096x10 ![] bcast_S_S4096x10 (Host.sqrt (constant S_ .f32 0x45800000#32)))
    (Host.dotGeneral dot_S4096x10_S10x10_S4096x10_1_0_0_1_n_n none h (transpose S10x10 [1, 0] X transposes_S10x10_S10x10_1_0))

/-- The second result. -/
def graphV (adj : FVec F S4096x4096 .f32) (x : FVec F S4096x128 .f32) (w1 : FVec F S128x64 .f32) (w2 : FVec F S64x10 .f32) : FVec F S4096x10 .f32 :=
  Host.dotGeneral dot_S4096x4096_S4096x10_S4096x10_1_0_0_1_n_n none adj (Host.dotGeneral dot_S4096x64_S64x10_S4096x10_1_0_0_1_n_n none
    (maximumf (Host.dotGeneral dot_S4096x4096_S4096x64_S4096x64_1_0_0_1_n_n none adj (Host.dotGeneral dot_S4096x128_S128x64_S4096x64_1_0_0_1_n_n none x w1))
      (broadcastInDim S4096x64 ![] bcast_S_S4096x64 (constant S_ .f32 0x00000000#32))) w2)

/-- A table of zeros. -/
abbrev zeros : FVec F S10x10 .f32 := broadcastInDim S10x10 ![] bcast_S_S10x10 (constant S_ .f32 0x00000000#32)

/-- The perceptron. -/
def netV (x : FVec F S4096x128 .f32) (w0 : FVec F S128x1024 .f32) (b0 : FVec F S1024 .f32) (w1 : FVec F S1024x512 .f32) (b1 : FVec F S512 .f32)
    (w2 : FVec F S512x50 .f32) (b2 : FVec F S50 .f32) (w3 : FVec F S50x10 .f32) (b3 : FVec F S10 .f32) : FVec F S4096x10 .f32 :=
  lay4 (lay3 (lay2 (lay1 x w0 b0) w1 b1) w2 b2) w3 b3

/-- The factor and its inverse. -/
def factorV (h : FVec F S4096x10 .f32) : FVec F S10x10 .f32 := refL (gramV h) zeros 10
def inverseV (L : FVec F S10x10 .f32) : FVec F S10x10 .f32 := refX L zeros 10

end Text

theorem lay1_apply (x : S4096x128.Idx → EReal) (w : S128x1024.Idx → EReal) (b : S1024.Idx → EReal) (r : Fin 4096) (j : Fin 1024) :
    lay1 (F := Ideal) x w b (ix2 r j) = dense (fun r k => x (ix2 r k)) (fun r k => w (ix2 r k)) (fun k => b (ix1 k)) r j := by
  unfold lay1
  pointwise []
  rfl
theorem lay2_apply (x : S4096x1024.Idx → EReal) (w : S1024x512.Idx → EReal) (b : S512.Idx → EReal) (r : Fin 4096) (j : Fin 512) :
    lay2 (F := Ideal) x w b (ix2 r j) = dense (fun r k => x (ix2 r k)) (fun r k => w (ix2 r k)) (fun k => b (ix1 k)) r j := by
  unfold lay2
  pointwise []
  rfl
theorem lay3_apply (x : S4096x512.Idx → EReal) (w : S512x50.Idx → EReal) (b : S50.Idx → EReal) (r : Fin 4096) (j : Fin 50) :
    lay3 (F := Ideal) x w b (ix2 r j) = dense (fun r k => x (ix2 r k)) (fun r k => w (ix2 r k)) (fun k => b (ix1 k)) r j := by
  unfold lay3
  pointwise []
  rfl
theorem lay4_apply (x : S4096x50.Idx → EReal) (w : S50x10.Idx → EReal) (b : S10.Idx → EReal) (r : Fin 4096) (j : Fin 10) :
    lay4 (F := Ideal) x w b (ix2 r j) = out (fun r k => x (ix2 r k)) (fun r k => w (ix2 r k)) (fun k => b (ix1 k)) r j := by
  unfold lay4
  pointwise []
  rfl

theorem netV_apply (x : S4096x128.Idx → EReal) (w0 : S128x1024.Idx → EReal) (b0 : S1024.Idx → EReal) (w1 : S1024x512.Idx → EReal) (b1 : S512.Idx → EReal)
    (w2 : S512x50.Idx → EReal) (b2 : S50.Idx → EReal) (w3 : S50x10.Idx → EReal) (b3 : S10.Idx → EReal) (r : Fin 4096) (j : Fin 10) :
    netV (F := Ideal) x w0 b0 w1 b1 w2 b2 w3 b3 (ix2 r j) = net (fun r k => x (ix2 r k)) (fun r k => w0 (ix2 r k)) (fun k => b0 (ix1 k))
      (fun r k => w1 (ix2 r k)) (fun k => b1 (ix1 k)) (fun r k => w2 (ix2 r k)) (fun k => b2 (ix1 k)) (fun r k => w3 (ix2 r k)) (fun k => b3 (ix1 k)) r j := by
  unfold netV net
  rw [lay4_apply]
  simp only [lay1_apply, lay2_apply, lay3_apply]

theorem gramV_apply (h : S4096x10.Idx → EReal) (i j : Fin 10) :
    gramV (F := Ideal) h (ix2 i j) = gram (fun r k => h (ix2 r k)) i j + Ideal.ofBits .f32 0x358637BD#32 * (if i = j then (1 : EReal) else (0 : EReal)) := by
  rw [← eye_apply]
  unfold gramV
  pointwise []
  rfl

/-- The root of 4096. -/
theorem root_value : Ideal.sqrt (Ideal.ofBits .f32 0x45800000#32) = (64 : EReal) := by
  rw [show Ideal.ofBits FTy.f32 0x45800000#32 = ((4096 : ℝ) : EReal) by simp [Ideal.ofBits, Ideal.ieee, -EReal.coe_mul]; norm_num]
  rw [Ideal.sqrt_coe, if_neg (by norm_num), show (4096 : ℝ) = 64 ^ 2 by norm_num, Real.sqrt_sq (by norm_num)]
  rfl

theorem orthoV_apply (h : S4096x10.Idx → EReal) (X : S10x10.Idx → EReal) (r : Fin 4096) (j : Fin 10) :
    orthoV (F := Ideal) h X (ix2 r j) = 64 * mul (fun r k => h (ix2 r k)) (fun r k => X (ix2 k r)) r j := by
  unfold orthoV
  pointwise []
  rw [root_value]
  rfl

theorem graphV_apply (adj : S4096x4096.Idx → EReal) (x : S4096x128.Idx → EReal) (w1 : S128x64.Idx → EReal) (w2 : S64x10.Idx → EReal) (r : Fin 4096) (j : Fin 10) :
    graphV (F := Ideal) adj x w1 w2 (ix2 r j)
      = graph (fun r k => adj (ix2 r k)) (fun r k => x (ix2 r k)) (fun r k => w1 (ix2 r k)) (fun r k => w2 (ix2 r k)) r j := by
  unfold graphV
  pointwise []
  rfl

theorem zeros_apply (i j : Fin 10) : (zeros (F := Ideal)) (ix2 i j) = (0 : EReal) := by
  unfold zeros
  pointwise []

end Cert.ReferenceIdeal.Hand

end
-- ==== Proof.Agree.lean ====
/- The kernel's inverted factor is the transpose of the reference's, for any table of real entries. -/
module

public import proofs.«01_k».proof.Proof.Factors
public import proofs.«01_k».proof.Proof.StepValues
public import proofs.«01_k».proof.Proof.RefValues

@[expose] public section

noncomputable section

namespace Cert.Agree

open Idealize.ShloMosaic Cert.Model

/-! ## The table that is factored -/

/-- The hyperbolic tangent is real everywhere. -/
theorem tanh_real (x : EReal) : ∃ r : ℝ, Ideal.tanh x = (r : EReal) := by
  induction x with
  | bot => exact ⟨-1, by rw [Ideal.tanh_bot]; rfl⟩
  | top => exact ⟨1, by rw [Ideal.tanh_top]; rfl⟩
  | coe x => exact ⟨Real.tanh x, Ideal.tanh_coe x⟩

/-- The small constant added along the diagonal. -/
theorem eps_real : ∃ e : ℝ, 0 < e ∧ Ideal.ofBits .f32 0x358637BD#32 = (e : EReal) := by
  refine ⟨8796093 / 2 ^ 43, by norm_num, ?_⟩
  simp [Ideal.ofBits, Ideal.ieee, -EReal.coe_mul]
  norm_num

/-- The products of a real table's columns, with a positive number added along the diagonal. -/
def gramR {n : ℕ} (h : Fin n → Fin 10 → ℝ) (e : ℝ) (i j : Fin 10) : ℝ := (∑ r, h r i * h r j) + e * (if i = j then 1 else 0)

theorem gramR_form {n : ℕ} (h : Fin n → Fin 10 → ℝ) (e : ℝ) (x : Fin 10 → ℝ) : form (gramR h e) x = (∑ r, (∑ i, h r i * x i) ^ 2) + e * ∑ i, x i ^ 2 := by
  have e1 : ∑ r, (∑ i, h r i * x i) ^ 2 = ∑ i, ∑ j, ∑ r, x i * (h r i * h r j) * x j := by
    simp only [pow_two, Finset.sum_mul_sum]
    rw [Finset.sum_comm]
    refine Finset.sum_congr rfl fun i _ => ?_
    rw [Finset.sum_comm]
    exact Finset.sum_congr rfl fun j _ => Finset.sum_congr rfl fun r _ => by ring
  have e2 : e * ∑ i, x i ^ 2 = ∑ i, ∑ j, (if j = i then e * x i * x j else 0) := by
    simp only [Finset.sum_ite_eq', Finset.mem_univ, if_true, Finset.mul_sum]
    exact Finset.sum_congr rfl fun i _ => by ring
  rw [e1, e2, ← Finset.sum_add_distrib]
  unfold form gramR
  refine Finset.sum_congr rfl fun i _ => ?_
  rw [← Finset.sum_add_distrib]
  refine Finset.sum_congr rfl fun j _ => ?_
  rw [← Finset.sum_mul, ← Finset.mul_sum]
  by_cases hij : j = i
  · rw [if_pos hij, if_pos hij.symm]; ring
  · rw [if_neg hij, if_neg (Ne.symm hij)]; ring

theorem gramR_pos {n : ℕ} (h : Fin n → Fin 10 → ℝ) {e : ℝ} (he : 0 < e) : PosFrom 0 (gramR h e) := by
  refine ⟨fun i j => ?_, fun x _ hx => ?_⟩
  · unfold gramR
    by_cases hij : i = j
    · rw [hij]
    · rw [if_neg hij, if_neg (Ne.symm hij)]
      simp only [mul_comm]
  · rw [gramR_form]
    have h1 : 0 ≤ ∑ r, (∑ i, h r i * x i) ^ 2 := Finset.sum_nonneg fun r _ => sq_nonneg _
    have h2 : 0 < ∑ i, x i ^ 2 := by
      obtain ⟨i, hi⟩ := Function.ne_iff.1 hx
      exact Finset.sum_pos' (fun i _ => sq_nonneg _) ⟨i, Finset.mem_univ _, by have := sq_pos_iff.2 hi; simpa using this⟩
    have := mul_pos he h2
    linarith

/-- The table both programs factor is real and positive definite. -/
theorem gram_real {n : ℕ} (H : Tab n 10) (hH : ∀ r i, ∃ v : ℝ, H r i = (v : EReal)) : ∃ G : Fin 10 → Fin 10 → ℝ, PosFrom 0 G ∧
    ∀ i j, gram H i j + Ideal.ofBits .f32 0x358637BD#32 * (if i = j then (1 : EReal) else (0 : EReal)) = (G i j : EReal) := by
  choose h hh using hH
  obtain ⟨e, he, hE⟩ := eps_real
  refine ⟨gramR h e, gramR_pos h he, fun i j => ?_⟩
  unfold gram gramR
  rw [EReal.coe_add, EReal.coe_mul, coe_sum, hE]
  simp only [hh, EReal.coe_mul]
  by_cases hij : i = j
  · rw [if_pos hij, if_pos hij, EReal.coe_one]
  · rw [if_neg hij, if_neg hij, EReal.coe_zero]

/-! ## The inverted factors -/

/-- The kernel's factor, inverted and transposed, is the reference's, transposed. -/
theorem inverse_agree (H : Tab 4096 10) (hH : ∀ r i, ∃ v : ℝ, H r i = (v : EReal)) (s : Cert.KernelIdeal.S10x10.Idx → EReal)
    (hs : ∀ i j, s (ix2 i j) = gram H i j) (h : Cert.ReferenceIdeal.S4096x10.Idx → EReal) (hh : ∀ r j, h (ix2 r j) = H r j) (i j : Fin 10) :
    KernelIdeal.Hand.invOf (F := Ideal) s (ix2 i j) = ReferenceIdeal.Hand.inverseV (F := Ideal) (ReferenceIdeal.Hand.factorV (F := Ideal) h) (ix2 j i) := by
  obtain ⟨G, hG, hGe⟩ := gram_real H hH
  have hK := first_way G hG (fun n i j => KernelIdeal.Hand.factA (F := Ideal) (KernelIdeal.Gen.k0_pay3 (F := Ideal) s) n (ix2 i j))
    (fun n i j => KernelIdeal.Hand.factL (F := Ideal) (KernelIdeal.Gen.k0_pay3 (F := Ideal) s) n (ix2 i j))
    (fun i j => by rw [← hGe, ← hs]; exact KernelIdeal.Hand.eps_apply s i j)
    (fun n i j => KernelIdeal.Hand.stepA_apply (kth n) _ i j) (fun i j => KernelIdeal.Hand.zero_apply i j)
    (fun n i j => KernelIdeal.Hand.stepL_apply (kth n) _ _ i j) 10 le_rfl
  have hR := second_way G hG (fun n i j => ReferenceIdeal.Hand.refL (F := Ideal) (ReferenceIdeal.Hand.gramV (F := Ideal) h) ReferenceIdeal.Hand.zeros n (ix2 i j))
    (fun i j => ReferenceIdeal.Hand.gramV (F := Ideal) h (ix2 i j))
    (fun i j => by rw [← hGe, ReferenceIdeal.Hand.gramV_apply]; simp only [hh])
    (fun i j => ReferenceIdeal.Hand.zeros_apply i j)
    (fun n i j => (ReferenceIdeal.Hand.setL_apply (kth n) _ _ i j).trans (by rw [ReferenceIdeal.Hand.colS_apply, ReferenceIdeal.Hand.colS_apply])) 10 le_rfl
  have hL : ∀ i j, KernelIdeal.Hand.factL (F := Ideal) (KernelIdeal.Gen.k0_pay3 (F := Ideal) s) 10 (ix2 i j)
      = ReferenceIdeal.Hand.factorV (F := Ideal) h (ix2 i j) := fun i j => (hK i j).trans (hR i j).symm
  rw [KernelIdeal.Hand.inv_apply]
  refine ((rows_agree (fun i j => ReferenceIdeal.Hand.factorV (F := Ideal) h (ix2 i j))
    (fun n i j => KernelIdeal.Hand.invX (F := Ideal) (KernelIdeal.Hand.factL (F := Ideal) (KernelIdeal.Gen.k0_pay3 (F := Ideal) s) 10) n (ix2 i j))
    (fun n i j => ReferenceIdeal.Hand.refX (F := Ideal) (ReferenceIdeal.Hand.factorV (F := Ideal) h) ReferenceIdeal.Hand.zeros n (ix2 i j))
    (fun i j => KernelIdeal.Hand.zero_apply i j) (fun i j => ReferenceIdeal.Hand.zeros_apply i j)
    (fun n i j => (KernelIdeal.Hand.stepX_apply (kth n) _ _ i j).trans (by rw [KernelIdeal.Hand.xrow_apply]; simp only [hL]))
    (fun n i j => ReferenceIdeal.Hand.setX_apply (kth n) _ _ i j) 10 le_rfl).1 j i)

end Cert.Agree

end
-- ==== Proof.Algebraic.lean ====
/- Over the extended reals the kernel's two results are the reference's. -/
module

public import proofs.«01_k».proof.Defs
public import proofs.«01_k».proof.Proof.Results
public import proofs.«01_k».proof.Proof.Agree

@[expose] public section

set_option maxRecDepth 16384

noncomputable section

namespace Cert.Agree

open Idealize.ShloMosaic Idealize.ShloMosaic.StableHlo Idealize.SL.Sem Cert.Model Cert.ReferenceIdeal.Hand
open Cert.ReferenceIdeal (S4096x128 S4096x4096 S128x1024 S1024 S1024x512 S512 S512x50 S50 S50x10 S10 S128x64 S64x10)
open Cert.KernelIdeal.Hand (orthoF graphF tH hA g2A invOf g2A_apply)

/-! ## The reference's results are their text -/

section Text
variable {F : FTy → Type} [FloatOps F]
variable (V : Valuation Cert.ReferenceIdeal.τ Cert.ReferenceIdeal.sig (Elt F))

/-- The perceptron's output of the reference's arguments. -/
def netOf : FVec F Cert.ReferenceIdeal.S4096x10 .f32 :=
  netV (V (Proc.devRef .tc Cert.ReferenceIdeal.main_arg0)) (V (Proc.devRef .tc Cert.ReferenceIdeal.main_arg2)) (V (Proc.devRef .tc Cert.ReferenceIdeal.main_arg3))
    (V (Proc.devRef .tc Cert.ReferenceIdeal.main_arg4)) (V (Proc.devRef .tc Cert.ReferenceIdeal.main_arg5)) (V (Proc.devRef .tc Cert.ReferenceIdeal.main_arg6))
    (V (Proc.devRef .tc Cert.ReferenceIdeal.main_arg7)) (V (Proc.devRef .tc Cert.ReferenceIdeal.main_arg8)) (V (Proc.devRef .tc Cert.ReferenceIdeal.main_arg9))

theorem net_text : Cert.ReferenceIdeal.Value.res_main_v22 V = netOf V := rfl

theorem gram_text : Cert.ReferenceIdeal.Value.res_main_v33 V = gramV (Cert.ReferenceIdeal.Value.res_main_v22 V) := rfl

theorem factor_of : Cert.ReferenceIdeal.Value.res_main_v195 V = factorV (netOf V) := by
  rw [factor_text, gram_text, net_text]
  rfl

end Text

/-! ## The results agree -/

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)

theorem ortho_agree (c : Dev Cert.KernelIdeal.nD) (h : Cert.ReferenceIdeal.S4096x10.Idx → EReal) (hh : ∀ r j, h (ix2 r j) = tH m c r j) :
    orthoV (F := Ideal) h (inverseV (F := Ideal) (factorV (F := Ideal) h)) = orthoF m c := by
  funext y
  rw [eq_ix2 y]
  refine (orthoV_apply h _ (y 0) (y 1)).trans ?_
  show _ = 64 * mul (tH m c) _ (y 0) (y 1)
  unfold mul
  refine congrArg (64 * ·) (Finset.sum_congr rfl fun k _ => ?_)
  exact congrArg₂ (· * ·) (hh _ k) (inverse_agree (tH m c) (fun r i => tanh_real _) (g2A m c) (g2A_apply m c) h hh k (y 1)).symm

theorem algebraic : Cert.algebraic_KernelIdeal_ReferenceIdeal := by
  intro m g m' g' _ hargs
  refine ⟨fun c => orthoF m c, fun c => graphF m c, ?_, ?_⟩
  · exact (θ_run _ _ _).mono (fun r h c => ⟨(h.1 c).1, (h.1 c).2, h.2.1 c⟩)
      (θ_run_and (Cert.KernelIdeal.Hand.run_values m g) (Cert.KernelIdeal.Hand.frame_main m g))
  · refine (θ_run _ _ _).mono (fun r h c => ⟨(h c).1.trans ?_, (h c).2.1.trans ?_, (h c).2.2⟩) (Cert.ReferenceIdeal.Value.run m' g')
    · obtain ⟨a0, a1, a2, a3, a4, a5, a6, a7, a8, a9, a10, a11⟩ := hargs c
      refine Eq.trans ?_ (ortho_agree m c (netOf (launchContents m' c)) fun r j => ?_)
      · rw [factor_of, net_text, inverse_text, factor_of]
        rfl
      · refine (netV_apply _ _ _ _ _ _ _ _ _ r j).trans ?_
        have e0 : (fun r k => (launchContents m' c) (Proc.devRef .tc Cert.ReferenceIdeal.main_arg0) (ix2 r k)) = Cert.KernelIdeal.Hand.tX m c := funext fun r => funext fun k => congrFun a0 (ix2 r k)
        have e2 : (fun r k => (launchContents m' c) (Proc.devRef .tc Cert.ReferenceIdeal.main_arg2) (ix2 r k)) = Cert.KernelIdeal.Hand.tW0 m c := funext fun r => funext fun k => congrFun a2 (ix2 r k)
        have e3 : (fun k => (launchContents m' c) (Proc.devRef .tc Cert.ReferenceIdeal.main_arg3) (ix1 k)) = Cert.KernelIdeal.Hand.tB0 m c := funext fun k => congrFun a3 (ix1 k)
        have e4 : (fun r k => (launchContents m' c) (Proc.devRef .tc Cert.ReferenceIdeal.main_arg4) (ix2 r k)) = Cert.KernelIdeal.Hand.tW1 m c := funext fun r => funext fun k => congrFun a4 (ix2 r k)
        have e5 : (fun k => (launchContents m' c) (Proc.devRef .tc Cert.ReferenceIdeal.main_arg5) (ix1 k)) = Cert.KernelIdeal.Hand.tB1 m c := funext fun k => congrFun a5 (ix1 k)
        have e6 : (fun r k => (launchContents m' c) (Proc.devRef .tc Cert.ReferenceIdeal.main_arg6) (ix2 r k)) = Cert.KernelIdeal.Hand.tW2 m c := funext fun r => funext fun k => congrFun a6 (ix2 r k)
        have e7 : (fun k => (launchContents m' c) (Proc.devRef .tc Cert.ReferenceIdeal.main_arg7) (ix1 k)) = Cert.KernelIdeal.Hand.tB2 m c := funext fun k => congrFun a7 (ix1 k)
        have e8 : (fun r k => (launchContents m' c) (Proc.devRef .tc Cert.ReferenceIdeal.main_arg8) (ix2 r k)) = Cert.KernelIdeal.Hand.tW3 m c := funext fun r => funext fun k => congrFun a8 (ix2 r k)
        have e9 : (fun k => (launchContents m' c) (Proc.devRef .tc Cert.ReferenceIdeal.main_arg9) (ix1 k)) = Cert.KernelIdeal.Hand.tB3 m c := funext fun k => congrFun a9 (ix1 k)
        rw [e0, e2, e3, e4, e5, e6, e7, e8, e9]
        rfl
    · obtain ⟨a0, a1, a2, a3, a4, a5, a6, a7, a8, a9, a10, a11⟩ := hargs c
      funext y
      rw [eq_ix2 y]
      refine (graphV_apply _ _ _ _ (y 0) (y 1)).trans ?_
      have e0 : (fun r k => (launchContents m' c) (Proc.devRef .tc Cert.ReferenceIdeal.main_arg0) (ix2 r k)) = Cert.KernelIdeal.Hand.tX m c := funext fun r => funext fun k => congrFun a0 (ix2 r k)
      have e1 : (fun r k => (launchContents m' c) (Proc.devRef .tc Cert.ReferenceIdeal.main_arg1) (ix2 r k)) = Cert.KernelIdeal.Hand.tAdj m c := funext fun r => funext fun k => congrFun a1 (ix2 r k)
      have e10 : (fun r k => (launchContents m' c) (Proc.devRef .tc Cert.ReferenceIdeal.main_arg10) (ix2 r k)) = Cert.KernelIdeal.Hand.tG1 m c := funext fun r => funext fun k => congrFun a10 (ix2 r k)
      have e11 : (fun r k => (launchContents m' c) (Proc.devRef .tc Cert.ReferenceIdeal.main_arg11) (ix2 r k)) = Cert.KernelIdeal.Hand.tG2 m c := funext fun r => funext fun k => congrFun a11 (ix2 r k)
      rw [e0, e1, e10, e11]
      rfl

end Cert.Agree

end
-- ==== Proof.lean ====
module

public import proofs.«01_k».proof.Defs
public import proofs.«01_k».proof.Proof.Same
public import proofs.«01_k».proof.Proof.Launch
public import proofs.«01_k».proof.Proof.Algebraic
public import proofs.«01_k».proof.Proof.Gen.ReferenceIdeal.Run
public import Idealize.ShloMosaic.Lib.Quiescent
public import Idealize.ShloMosaic.Adequacy
public import Idealize.ShloMosaic.Init

@[expose] public section

noncomputable section

namespace Cert.Proof

open Idealize.ShloMosaic Idealize.SL.Sem

/-- The reference has no counters, so they are zero at every final state. -/
theorem frame_reference : Cert.quiescent_ReferenceIdeal := fun m g _ =>
  (θ_run Cert.ReferenceIdeal.defs _ _).mono
    (fun r h => ⟨fun c => (h c).2.2, sem_eq_zero_of_no_sems (sig := Cert.ReferenceIdeal.sig) (by decide) r.2⟩) (Cert.ReferenceIdeal.Value.run m g)

theorem claim : Cert.Claim := ⟨Cert.Kernel.Gen.facts, Cert.KernelIdeal.Gen.facts, Cert.ReferenceIdeal.Gen.facts,
  fun m g _ => Cert.Same.run_of m g _ (Cert.KernelIdeal.Hand.frame_main m g),
  fun m g _ => Cert.KernelIdeal.Hand.frame_main m g,
  frame_reference,
  trivial,
  Cert.Agree.algebraic⟩

end Cert.Proof

end
